-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨4, ![1, 32768, 2, 128]⟩ ⟨4, ![1, 262144, 2, 128]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨4, ![1, 32768, 2, 128]⟩ ⟨4, ![1, 262144, 2, 128]⟩ 1 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v22) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1x128x1024 : Shape := ⟨3, ![1, 128, 1024]⟩
abbrev S1024x1024 : Shape := ⟨2, ![1024, 1024]⟩
abbrev S1x32768x2x128 : Shape := ⟨4, ![1, 32768, 2, 128]⟩
abbrev S_ : Shape := ⟨0, ![]⟩

class Facts : Prop where
  bcast_S_S1x128x1024 : S_.BroadcastsInDim S1x128x1024 (![] : Fin 0 → Fin S1x128x1024.rank)
  reducesTo_S1x128x1024_S_d0_1_2 : S1x128x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x32768x2x128 : S_.BroadcastsInDim S1x32768x2x128 (![] : Fin 0 → Fin S1x32768x2x128.rank)
  reducesTo_S1x32768x2x128_S_d0_1_2_3 : S1x32768x2x128.ReducesTo [0, 1, 2, 3] S_

variable [Facts]

def fn {F : FTy → Type} [FloatOps F] (main_arg0 : FVec F S1x128x1024 .f32) (main_arg1 : FVec F S1024x1024 .f32) (main_arg2 : FVec F S1024x1024 .f32) (main_arg3 : FVec F S1x32768x2x128 .f32) (main_arg4 : FVec F S1x32768x2x128 .f32) : IVec S_ 1 :=
  let main_v0 : FVec F S1x128x1024 .f32 := Host.absf main_arg0
  let main_cst : FVec F S_ .f32 := constant S_ .f32 0x7F800000#32
  let main_v1 : FVec F S1x128x1024 .f32 := broadcastInDim S1x128x1024 ![] bcast_S_S1x128x1024 main_cst
  let main_v2 : IVec S1x128x1024 1 := cmpf .olt main_v0 main_v1
  let main_c : IVec S_ 1 := constantI S_ 1 1#1
  let main_v3 : IVec S_ 1 := (fun x v => Host.reduce IntOp.andi x v reducesTo_S1x128x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1x32768x2x128 .f32 := Host.absf main_arg3
  let main_cst_2 : FVec F S_ .f32 := constant S_ .f32 0x7F800000#32
  let main_v10 : FVec F S1x32768x2x128 .f32 := broadcastInDim S1x32768x2x128 ![] bcast_S_S1x32768x2x128 main_cst_2
  let main_v11 : IVec S1x32768x2x128 1 := cmpf .olt main_v9 main_v10
  let main_c_3 : IVec S_ 1 := constantI S_ 1 1#1
  let main_v12 : IVec S_ 1 := (fun x v => Host.reduce IntOp.andi x v reducesTo_S1x32768x2x128_S_d0_1_2_3 h_S_) main_v11 main_c_3
  let main_v13 : IVec S_ 1 := andi main_v8 main_v12
  main_v13
-- ==== Pre_finite_ReferenceIdeal.lean ====
abbrev S1x128x1024 : Shape := ⟨3, ![1, 128, 1024]⟩
abbrev S1024x1024 : Shape := ⟨2, ![1024, 1024]⟩
abbrev S1x262144x2x128 : Shape := ⟨4, ![1, 262144, 2, 128]⟩
abbrev S_ : Shape := ⟨0, ![]⟩

class Facts : Prop where
  bcast_S_S1x128x1024 : S_.BroadcastsInDim S1x128x1024 (![] : Fin 0 → Fin S1x128x1024.rank)
  reducesTo_S1x128x1024_S_d0_1_2 : S1x128x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x262144x2x128 : S_.BroadcastsInDim S1x262144x2x128 (![] : Fin 0 → Fin S1x262144x2x128.rank)
  reducesTo_S1x262144x2x128_S_d0_1_2_3 : S1x262144x2x128.ReducesTo [0, 1, 2, 3] S_

variable [Facts]

def fn {F : FTy → Type} [FloatOps F] (main_arg0 : FVec F S1x128x1024 .f32) (main_arg1 : FVec F S1024x1024 .f32) (main_arg2 : FVec F S1024x1024 .f32) (main_arg3 : FVec F S1x262144x2x128 .f32) (main_arg4 : FVec F S1x262144x2x128 .f32) : IVec S_ 1 :=
  let main_v0 : FVec F S1x128x1024 .f32 := Host.absf main_arg0
  let main_cst : FVec F S_ .f32 := constant S_ .f32 0x7F800000#32
  let main_v1 : FVec F S1x128x1024 .f32 := broadcastInDim S1x128x1024 ![] bcast_S_S1x128x1024 main_cst
  let main_v2 : IVec S1x128x1024 1 := cmpf .olt main_v0 main_v1
  let main_c : IVec S_ 1 := constantI S_ 1 1#1
  let main_v3 : IVec S_ 1 := (fun x v => Host.reduce IntOp.andi x v reducesTo_S1x128x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1x262144x2x128 .f32 := Host.absf main_arg3
  let main_cst_2 : FVec F S_ .f32 := constant S_ .f32 0x7F800000#32
  let main_v10 : FVec F S1x262144x2x128 .f32 := broadcastInDim S1x262144x2x128 ![] bcast_S_S1x262144x2x128 main_cst_2
  let main_v11 : IVec S1x262144x2x128 1 := cmpf .olt main_v9 main_v10
  let main_c_3 : IVec S_ 1 := constantI S_ 1 1#1
  let main_v12 : IVec S_ 1 := (fun x v => Host.reduce IntOp.andi x v reducesTo_S1x262144x2x128_S_d0_1_2_3 h_S_) main_v11 main_c_3
  let main_v13 : IVec S_ 1 := andi main_v8 main_v12
  main_v13
-- ==== Kernel.lean ====
abbrev S1x128x1024 : Shape := ⟨3, ![1, 128, 1024]⟩
abbrev S1024x1024 : Shape := ⟨2, ![1024, 1024]⟩
abbrev S1x32768x2x128 : Shape := ⟨4, ![1, 32768, 2, 128]⟩
abbrev S2x2048x2x128 : Shape := ⟨4, ![2, 2048, 2, 128]⟩
abbrev S2x2 : Shape := ⟨2, ![2, 2]⟩
abbrev S3x1024x129 : Shape := ⟨3, ![3, 1024, 129]⟩
abbrev S3 : Shape := ⟨1, ![3]⟩
abbrev S_ : Shape := ⟨0, ![]⟩
abbrev S128x1024 : Shape := ⟨2, ![128, 1024]⟩
abbrev S1024x128 : Shape := ⟨2, ![1024, 128]⟩
abbrev S128x128 : Shape := ⟨2, ![128, 128]⟩
abbrev S512x128 : Shape := ⟨2, ![512, 128]⟩
abbrev S512x1 : Shape := ⟨2, ![512, 1]⟩
abbrev S1x1 : Shape := ⟨2, ![1, 1]⟩
abbrev S1x2048x2x128 : Shape := ⟨4, ![1, 2048, 2, 128]⟩
abbrev S2048x2x128 : Shape := ⟨3, ![2048, 2, 128]⟩
abbrev S2048x1x128 : Shape := ⟨3, ![2048, 1, 128]⟩
abbrev S2048x128 : Shape := ⟨2, ![2048, 128]⟩
abbrev S512x2048 : Shape := ⟨2, ![512, 2048]⟩
abbrev S512 : Shape := ⟨1, ![512]⟩
abbrev S1024x1 : Shape := ⟨2, ![1024, 1]⟩
abbrev S1x1024x128 : Shape := ⟨3, ![1, 1024, 128]⟩
abbrev S1x1024x1 : Shape := ⟨3, ![1, 1024, 1]⟩
abbrev S1 : Shape := ⟨1, ![1]⟩
abbrev S1x1024x129 : Shape := ⟨3, ![1, 1024, 129]⟩
abbrev S1024x129 : Shape := ⟨2, ![1024, 129]⟩

abbrev nBuf : Space → Nat
  | .hbm => 6
  | .vmem => 8
  | .smem => 0
  | _ => 0

abbrev bufTy : (tb : Table) → Fin (tcTables nBuf tb) → BufTy
  | .hbm, ⟨0, _⟩ => ⟨S1x128x1024, .f32⟩
  | .hbm, ⟨1, _⟩ => ⟨S1024x1024, .f32⟩
  | .hbm, ⟨2, _⟩ => ⟨S1024x1024, .f32⟩
  | .hbm, ⟨3, _⟩ => ⟨S1x32768x2x128, .f32⟩
  | .hbm, ⟨4, _⟩ => ⟨S1x32768x2x128, .f32⟩
  | .hbm, ⟨5, _⟩ => ⟨S1x128x1024, .f32⟩
  | .local _ .vmem, ⟨0, _⟩ => ⟨S1x128x1024, .f32⟩
  | .local _ .vmem, ⟨1, _⟩ => ⟨S1024x1024, .f32⟩
  | .local _ .vmem, ⟨2, _⟩ => ⟨S1024x1024, .f32⟩
  | .local _ .vmem, ⟨3, _⟩ => ⟨S1x128x1024, .f32⟩
  | .local _ .vmem, ⟨4, _⟩ => ⟨S2x2048x2x128, .f32⟩
  | .local _ .vmem, ⟨5, _⟩ => ⟨S2x2048x2x128, .f32⟩
  | .local _ .vmem, ⟨6, _⟩ => ⟨S3x1024x129, .bf16⟩
  | .local _ .vmem, ⟨7, _⟩ => ⟨S3x1024x129, .bf16⟩
  | _, _ => ⟨S1x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  (ofTc nBuf bufTy 1 14 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch3 : Ref sig .tc := ⟨.vmem, 6, rfl⟩
abbrev cc0_scratch4 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v7 : BitVec 32 := Scalar.xori v2 c2_i32
  let c1_i32_4 : BitVec 32 := 1#32
  let v8 : BitVec 32 := Scalar.muli v7 c1_i32_4
  let v9 : BitVec 32 := Scalar.addi c0_i32_5 v8
  v9.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v10 : BitVec 32 := Scalar.xori v2 c4_i32
  let c1_i32_7 : BitVec 32 := 1#32
  let v11 : BitVec 32 := Scalar.muli v10 c1_i32_7
  let v12 : BitVec 32 := Scalar.addi c0_i32_8 v11
  v12.toNat
@[reducible] def k0_t1_loop : Scf.Loop 32 :=
  let c0_i32_52 : BitVec 32 := 0#32
  let c8_i32_53 : BitVec 32 := 8#32
  let v77 : BitVec 32 := Scalar.addi c0_i32_52 c8_i32_53
  let c1_i32_54 : BitVec 32 := 1#32
  ⟨c0_i32_52, v77, c1_i32_54⟩
def k0_off1 (k0_t1 : Fin k0_t1_loop.trips) : Fin 4 → Nat :=
  let c0_i32_207 : BitVec 32 := 0#32
  let c2_i32_185 : BitVec 32 := 2#32
  let c0_i32_52 : BitVec 32 := 0#32
  let c1_i32_54 : BitVec 32 := 1#32
  let arg13 : BitVec 32 := Scf.iv c0_i32_52 c1_i32_54 k0_t1
  let v223 : BitVec 32 := Scalar.muli c2_i32_185 arg13
  let c1_i32_206 : BitVec 32 := 1#32
  let v236 : BitVec 32 := Scalar.addi v223 c1_i32_206
  let c2048_i32 : BitVec 32 := 2048#32
  let v237 : BitVec 32 := Scalar.muli v236 c2048_i32
  let c0_i32_214 : BitVec 32 := 0#32
  let c0_i32_215 : BitVec 32 := 0#32
  ![0, v237.toNat, 0, 0]
def k0_cond1 (k0_t1 : Fin k0_t1_loop.trips) : BitVec 1 :=
  let c2_i32_185 : BitVec 32 := 2#32
  let c0_i32_52 : BitVec 32 := 0#32
  let c1_i32_54 : BitVec 32 := 1#32
  let arg13 : BitVec 32 := Scf.iv c0_i32_52 c1_i32_54 k0_t1
  let v223 : BitVec 32 := Scalar.muli c2_i32_185 arg13
  let c2_i32_268 : BitVec 32 := 2#32
  let v299 : BitVec 32 := Scalar.addi v223 c2_i32_268
  let c16_i32 : BitVec 32 := 16#32
  let v300 : BitVec 1 := Scalar.cmpi .slt v299 c16_i32
  let v301 : BitVec 32 := Scalar.extui v300
  let c0_i32_269 : BitVec 32 := 0#32
  let v302 : BitVec 1 := Scalar.cmpi .ne v301 c0_i32_269
  v302

def k0_off2 (k0_t1 : Fin k0_t1_loop.trips) : Fin 4 → Nat :=
  let c0_i32_294 : BitVec 32 := 0#32
  let c2_i32_185 : BitVec 32 := 2#32
  let c0_i32_52 : BitVec 32 := 0#32
  let c1_i32_54 : BitVec 32 := 1#32
  let arg13 : BitVec 32 := Scf.iv c0_i32_52 c1_i32_54 k0_t1
  let v223 : BitVec 32 := Scalar.muli c2_i32_185 arg13
  let c2_i32_292 : BitVec 32 := 2#32
  let v339 : BitVec 32 := Scalar.addi v223 c2_i32_292
  let c2048_i32_293 : BitVec 32 := 2048#32
  let v340 : BitVec 32 := Scalar.muli v339 c2048_i32_293
  let c0_i32_301 : BitVec 32 := 0#32
  let c0_i32_302 : BitVec 32 := 0#32
  ![0, v340.toNat, 0, 0]
def k0_dev4 (d0 : Dev nD) : Nat :=
  let c0_i32_67 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_56 : BitVec 32 := 1#32
  let v81 : BitVec 32 := Scalar.xori v2 c1_i32_56
  let c1_i32_66 : BitVec 32 := 1#32
  let v90 : BitVec 32 := Scalar.muli v81 c1_i32_66
  let v91 : BitVec 32 := Scalar.addi c0_i32_67 v90
  v91.toNat
def k0_dev5 (d0 : Dev nD) : Nat :=
  let c0_i32_108 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_97 : BitVec 32 := 2#32
  let v122 : BitVec 32 := Scalar.xori v2 c2_i32_97
  let c1_i32_107 : BitVec 32 := 1#32
  let v131 : BitVec 32 := Scalar.muli v122 c1_i32_107
  let v132 : BitVec 32 := Scalar.addi c0_i32_108 v131
  v132.toNat
def k0_dev6 (d0 : Dev nD) : Nat :=
  let c0_i32_149 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_138 : BitVec 32 := 4#32
  let v163 : BitVec 32 := Scalar.xori v2 c4_i32_138
  let c1_i32_148 : BitVec 32 := 1#32
  let v172 : BitVec 32 := Scalar.muli v163 c1_i32_148
  let v173 : BitVec 32 := Scalar.addi c0_i32_149 v172
  v173.toNat
abbrev stage0_0 : Fin 1 → Memref sig .tc .vmem S1x128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S1x128x1024 : Shape := ⟨3, ![1, 128, 1024]⟩
abbrev S1024x1024 : Shape := ⟨2, ![1024, 1024]⟩
abbrev S1x262144x2x128 : Shape := ⟨4, ![1, 262144, 2, 128]⟩
abbrev S1x128x8x128 : Shape := ⟨4, ![1, 128, 8, 128]⟩
abbrev S1x262144x2x4x128 : Shape := ⟨5, ![1, 262144, 2, 4, 128]⟩
abbrev S1x262144x8x128 : Shape := ⟨4, ![1, 262144, 8, 128]⟩
abbrev S1x8x128x262144 : Shape := ⟨4, ![1, 8, 128, 262144]⟩
abbrev S_ : Shape := ⟨0, ![]⟩
abbrev S1x8x128 : Shape := ⟨3, ![1, 8, 128]⟩
abbrev S1x8x128x1 : Shape := ⟨4, ![1, 8, 128, 1]⟩
abbrev S1x8x128x128 : Shape := ⟨4, ![1, 8, 128, 128]⟩
abbrev S1x128x8x1 : Shape := ⟨4, ![1, 128, 8, 1]⟩

abbrev nBuf : Space → Nat
  | .hbm => 31
  | .vmem => 0
  | .smem => 0
  | _ => 0

abbrev bufTy : (tb : Table) → Fin (tcTables nBuf tb) → BufTy
  | .hbm, ⟨0, _⟩ => ⟨S1x128x1024, .f32⟩
  | .hbm, ⟨1, _⟩ => ⟨S1024x1024, .f32⟩
  | .hbm, ⟨2, _⟩ => ⟨S1024x1024, .f32⟩
  | .hbm, ⟨3, _⟩ => ⟨S1x262144x2x128, .f32⟩
  | .hbm, ⟨4, _⟩ => ⟨S1x262144x2x128, .f32⟩
  | .hbm, ⟨5, _⟩ => ⟨S1x128x1024, .f32⟩
  | .hbm, ⟨6, _⟩ => ⟨S1x128x8x128, .f32⟩
  | .hbm, ⟨7, _⟩ => ⟨S1x262144x2x4x128, .f32⟩
  | .hbm, ⟨8, _⟩ => ⟨S1x262144x8x128, .f32⟩
  | .hbm, ⟨9, _⟩ => ⟨S1x262144x2x4x128, .f32⟩
  | .hbm, ⟨10, _⟩ => ⟨S1x262144x8x128, .f32⟩
  | .hbm, ⟨11, _⟩ => ⟨S1x8x128x262144, .f32⟩
  | .hbm, ⟨12, _⟩ => ⟨S_, .f32⟩
  | .hbm, ⟨13, _⟩ => ⟨S1x8x128x262144, .f32⟩
  | .hbm, ⟨14, _⟩ => ⟨S1x8x128x262144, .f32⟩
  | .hbm, ⟨15, _⟩ => ⟨S_, .f32⟩
  | .hbm, ⟨16, _⟩ => ⟨S1x8x128, .f32⟩
  | .hbm, ⟨17, _⟩ => ⟨S1x8x128x1, .f32⟩
  | .hbm, ⟨18, _⟩ => ⟨S1x8x128x262144, .f32⟩
  | .hbm, ⟨19, _⟩ => ⟨S1x8x128x262144, .f32⟩
  | .hbm, ⟨20, _⟩ => ⟨S1x8x128x262144, .f32⟩
  | .hbm, ⟨21, _⟩ => ⟨S_, .f32⟩
  | .hbm, ⟨22, _⟩ => ⟨S1x8x128, .f32⟩
  | .hbm, ⟨23, _⟩ => ⟨S1x8x128x1, .f32⟩
  | .hbm, ⟨24, _⟩ => ⟨S1x8x128x128, .f32⟩
  | .hbm, ⟨25, _⟩ => ⟨S1x128x8x128, .f32⟩
  | .hbm, ⟨26, _⟩ => ⟨S1x128x8x1, .f32⟩
  | .hbm, ⟨27, _⟩ => ⟨S1x128x8x128, .f32⟩
  | .hbm, ⟨28, _⟩ => ⟨S1x128x8x128, .f32⟩
  | .hbm, ⟨29, _⟩ => ⟨S1x128x1024, .f32⟩
  | .hbm, ⟨30, _⟩ => ⟨S1x128x1024, .f32⟩
  | _, _ => ⟨S1x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== Proof.Values.lean ====
/-
# The values of the run

What each device computes, as functions of the memory at launch: the accumulators after each trip of the chunk loop,
and the three rounds of the exchange. Nothing here mentions a program: the run (`Protocol`, `Loop`, `Body`, `Launch`)
proves that the kernel computes these, `Math` what they are over the extended reals.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pointwise.Index

@[expose] public section

noncomputable section

namespace Cert.RunProof

open Cert.KernelIdeal Cert.KernelIdeal.Gen
open Idealize.ShloMosaic Idealize.ShloMosaic.TcCoe

variable {F : FTy → Type} [FloatOps F]

/-! ## Who a device exchanges with -/

/-- The partner of device `c` in round `s`: the device whose number differs in bit `s`. -/
def peer (s : Fin 3) (c : Dev nD) : Dev nD :=
  ⟨c.val ^^^ (1 <<< s.val), by revert s c; decide⟩

theorem peer_peer (s : Fin 3) (c : Dev nD) : peer s (peer s c) = c := by revert s c; decide

/-- Exchanging with the partner, as a permutation of the devices. -/
def peerE (s : Fin 3) : Dev nD ≃ Dev nD := ⟨peer s, peer s, peer_peer s, peer_peer s⟩

theorem dev1_eq (c : Dev nD) : (⟨k0_dev1 c, k0_dev1_lt c⟩ : Dev nD) = peer 0 c := by revert c; decide
theorem dev2_eq (c : Dev nD) : (⟨k0_dev2 c, k0_dev2_lt c⟩ : Dev nD) = peer 1 c := by revert c; decide
theorem dev3_eq (c : Dev nD) : (⟨k0_dev3 c, k0_dev3_lt c⟩ : Dev nD) = peer 2 c := by revert c; decide
theorem dev4_eq (c : Dev nD) : (⟨k0_dev4 c, k0_dev4_lt c⟩ : Dev nD) = peer 0 c := by revert c; decide
theorem dev5_eq (c : Dev nD) : (⟨k0_dev5 c, k0_dev5_lt c⟩ : Dev nD) = peer 1 c := by revert c; decide
theorem dev6_eq (c : Dev nD) : (⟨k0_dev6 c, k0_dev6_lt c⟩ : Dev nD) = peer 2 c := by revert c; decide

/-! ## The chunk loop -/

/-- The row of the device's block that row `i 1` of chunk `j` is. -/
def rowOf (j : ℕ) (i : S1x2048x2x128.Idx) : S1x32768x2x128.Idx :=
  ix4 (i 0) ⟨(2048 * j + (i 1).val) % 32768, Nat.mod_lt _ (by decide)⟩ (i 2) (i 3)

/-- Chunk `j` (2048 rows) of a device's block of keys or values. -/
def chunk (X : Vec F S1x32768x2x128 .f32) (j : ℕ) : Vec F S1x2048x2x128 .f32 := fun i => X (rowOf j i)

/-- What the chunk loop carries: per group of heads the weighted sum of the values and the sum of the weights. -/
abbrev Acc (F : FTy → Type) : Type := FVec F S512x128 .f32 × FVec F S512x1 .f32 × FVec F S512x128 .f32 × FVec F S512x1 .f32

/-- One trip: the chunk `k`, `v` of the first slot, then the chunk `k'`, `v'` of the second. -/
def tripStep (q0 q1 : FVec F S512x128 .bf16) (k v k' v' : Vec F S1x2048x2x128 .f32) (a : Acc F) : Acc F :=
  (k0_pay23 q0 (k0_pay4 q0 a.1 k v) k' v', k0_pay22 q0 (k0_pay3 q0 a.2.1 k) k',
   k0_pay26 q1 (k0_pay9 q1 a.2.2.1 (k0_pay5 k) (k0_pay6 v)) k' v', k0_pay25 q1 (k0_pay8 q1 a.2.2.2 (k0_pay5 k)) k')

/-- The carried values before trip `t`. -/
def accAt (q0 q1 : FVec F S512x128 .bf16) (K V : Vec F S1x32768x2x128 .f32) : ℕ → Acc F
  | 0 => (k0_pay17 (F := F), k0_pay18 (F := F), k0_pay19 (F := F), k0_pay20 (F := F))
  | t + 1 => tripStep q0 q1 (chunk K (2 * t)) (chunk V (2 * t)) (chunk K (2 * t + 1)) (chunk V (2 * t + 1)) (accAt q0 q1 K V t)

/-- The queries of the two groups of heads. -/
def qGrp0 (x : Vec F S1x128x1024 .f32) (wq : Vec F S1024x1024 .f32) : FVec F S512x128 .bf16 :=
  k0_pay15 (k0_pay10 x) (k0_pay11 wq) (k0_pay12 x wq) (k0_pay13 x wq) (k0_pay14 wq)
def qGrp1 (x : Vec F S1x128x1024 .f32) (wq : Vec F S1024x1024 .f32) : FVec F S512x128 .bf16 :=
  k0_pay16 (k0_pay10 x) (k0_pay11 wq)

variable (m : (ℓ : Loc nD τ sig) → Buf (Elt F) ℓ)

/-! ## What each device holds -/

/-- The staged blocks of `x`, `Wq` and `Wo` on device `c`, and its blocks of the keys and the values. -/
def xs (c : Dev nD) : Vec F S1x128x1024 .f32 := (win0_0.blk (0 : Fin 1)).view.read (Elt F) (m ((c : Thread nD τ).loc main_arg0))
def wqs (c : Dev nD) : Vec F S1024x1024 .f32 := (win0_1.blk (0 : Fin 1)).view.read (Elt F) (m ((c : Thread nD τ).loc main_arg1))
def wos (c : Dev nD) : Vec F S1024x1024 .f32 := (win0_2.blk (0 : Fin 1)).view.read (Elt F) (m ((c : Thread nD τ).loc main_arg2))
def ks (c : Dev nD) : Vec F S1x32768x2x128 .f32 := m ((c : Thread nD τ).loc main_arg3)
def vs (c : Dev nD) : Vec F S1x32768x2x128 .f32 := m ((c : Thread nD τ).loc main_arg4)

/-- The accumulators of device `c` after the loop. -/
def accs (c : Dev nD) : Acc F := accAt (qGrp0 (xs m c) (wqs m c)) (qGrp1 (xs m c) (wqs m c)) (ks m c) (vs m c) 8

/-! ## The three rounds: what a device holds before each, and what it sends -/

def o0 (c : Dev nD) : FVec F S1024x128 .f32 := k0_pay27 (accs m c).1 (accs m c).2.2.1
def l0 (c : Dev nD) : FVec F S1024x1 .f32 := k0_pay28 (accs m c).2.1 (accs m c).2.2.2
def po0 (c : Dev nD) : FVec F S1x1024x128 .bf16 := k0_pay29 (accs m c).1 (accs m c).2.2.1
def pl0 (c : Dev nD) : FVec F S1x1024x1 .bf16 := k0_pay30 (accs m c).2.1 (accs m c).2.2.2

def o1 (c : Dev nD) : FVec F S1024x128 .f32 := k0_pay31 (o0 m c) (po0 m (peer 0 c))
def b1 (c : Dev nD) : FVec F S1024x1 .f32 := k0_pay32 (pl0 m (peer 0 c))
def l1 (c : Dev nD) : FVec F S1024x1 .f32 := k0_pay33 (l0 m c) (b1 m c)
def po1 (c : Dev nD) : FVec F S1x1024x128 .bf16 := k0_pay34 (o1 m c)
def pl1 (c : Dev nD) : FVec F S1x1024x1 .bf16 := k0_pay35 (l0 m c) (b1 m c)

def o2 (c : Dev nD) : FVec F S1024x128 .f32 := k0_pay36 (o1 m c) (po1 m (peer 1 c))
def l2 (c : Dev nD) : FVec F S1024x1 .f32 := k0_pay37 (l1 m c) (pl1 m (peer 1 c))
def po2 (c : Dev nD) : FVec F S1x1024x128 .bf16 := k0_pay38 (o1 m c) (po1 m (peer 1 c))
def pl2 (c : Dev nD) : FVec F S1x1024x1 .bf16 := k0_pay39 (l1 m c) (pl1 m (peer 1 c))

/-- What device `c` sends in round `s`: its weighted sums and its sums of weights. -/
def po (s : Fin 3) (c : Dev nD) : Vec F S1x1024x128 .bf16 := match s with | 0 => po0 m c | 1 => po1 m c | 2 => po2 m c
def pl (s : Fin 3) (c : Dev nD) : Vec F S1x1024x1 .bf16 := match s with | 0 => pl0 m c | 1 => pl1 m c | 2 => pl2 m c

/-- The kernel's result on device `c`. -/
def outs (c : Dev nD) : Vec F S1x128x1024 .f32 :=
  k0_pay1 (k0_pay40 (o2 m c) (l2 m c) (po2 m (peer 2 c)) (pl2 m (peer 2 c)))
    (k0_pay41 (o2 m c) (l2 m c) (po2 m (peer 2 c)) (pl2 m (peer 2 c))) (wos m c)

end Cert.RunProof

end
-- ==== Proof.Protocol.lean ====
/-
# The exchange's protocol

The cells of the run (`Lib/Rounds.lean`): per device the barrier semaphore, three send and three receive semaphores,
one round each. A barrier cell has three duties, duty `s` paid by the partner of round `s` and handing over that
partner's receive slot `s`; a send cell gives the device its send slot back; a receive cell hands it its receive slot
holding what the partner sent. The schedule states the contents, so the run's value and its frame are one run.
-/
module

public import proofs.«01_k».proof.Proof.Values
public import Idealize.ShloMosaic.Lib.Pipeline.Launch
public import Idealize.ShloMosaic.Lib.Pipeline.Kit
public import Idealize.ShloMosaic.Lib.Tactic
public import Idealize.ShloMosaic.Lib.Ring
public import Idealize.ShloMosaic.Lib.Transfers

@[expose] public section

noncomputable section

namespace Cert.RunProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy, the exchange's rounds, the local transfers' counters -/

abbrev UB : Type := URounds (GSem nD τ sig) (Fin 3)
abbrev UU : Type := UR sig nD τ × (UB × Counters)

local notation "𝕄" => MT nD τ sig Unit (Elt F) ℕ UU ℕ

abbrev EP : Emb (UR sig nD τ) (MT nD τ sig Unit (Elt F) ℕ UU ℕ) := embL
/-- The exchange's rounds: the left half of the right factor. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance

abbrev 𝒱₀ : Variants := Variants.none

variable (m : (ℓ : Loc nD τ sig) → Buf (Elt F) ℓ)

/-! ## The slots and the cells -/

theorem inb_slot (s : Fin 3) : ∀ a, (![s.val, 0, 0] : Fin 3 → Nat) a + S1x1024x129.size a ≤ S3x1024x129.size a := by revert s; decide
theorem inb_slotO (s : Fin 3) : ∀ a, (![s.val, 0, 0] : Fin 3 → Nat) a + S1x1024x128.size a ≤ S3x1024x129.size a := by revert s; decide
theorem inb_slotL (s : Fin 3) : ∀ a, (![s.val, 0, 128] : Fin 3 → Nat) a + S1x1024x1.size a ≤ S3x1024x129.size a := by revert s; decide
theorem inb_sem (s : Fin 3) : ∀ a, (![s.val] : Fin 1 → Nat) a + S1.size a ≤ S3.size a := by revert s; decide

/-- Slot `s` of a buffer of three; its columns of weighted sums, its column of weights. -/
abbrev rSlot (s : Fin 3) : Rect S3x1024x129 := Rect.unit (s := S3x1024x129) ![s.val, 0, 0] S1x1024x129.size (inb_slot s)
abbrev rO (s : Fin 3) : Rect S3x1024x129 := Rect.unit (s := S3x1024x129) ![s.val, 0, 0] S1x1024x128.size (inb_slotO s)
abbrev rL (s : Fin 3) : Rect S3x1024x129 := Rect.unit (s := S3x1024x129) ![s.val, 0, 128] S1x1024x1.size (inb_slotL s)

abbrev sendW : Memref sig .tc .vmem S3x1024x129 .bf16 := Memref.whole cc0_scratch3
abbrev recvW : Memref sig .tc .vmem S3x1024x129 .bf16 := Memref.whole cc0_scratch4

abbrev sendM (s : Fin 3) : Memref sig .tc .vmem S1024x129 .bf16 :=
  (sendW.slice (rSlot s) (fun _ => rfl)).squeeze S1024x129 squeezes_S1x1024x129_S1024x129
abbrev recvM (s : Fin 3) : Memref sig .tc .vmem S1024x129 .bf16 :=
  (recvW.slice (rSlot s) (fun _ => rfl)).squeeze S1024x129 squeezes_S1x1024x129_S1024x129

abbrev barS : Sem sig := (SemArray.scalar (sig.barrier 0 rfl) : Sems sig S_).sem
abbrev sendS (s : Fin 3) : DmaSem sig :=
  ((cc0_scratch5.slice (Rect.unit (s := S3) ![s.val] S1.size (inb_sem s))).squeeze S_ squeezes_S1_S_).sem
abbrev recvS (s : Fin 3) : DmaSem sig :=
  ((cc0_scratch6.slice (Rect.unit (s := S3) ![s.val] S1.size (inb_sem s))).squeeze S_ squeezes_S1_S_).sem

abbrev barCell (c : Dev nD) : GSem nD τ sig := ((c : Thread nD τ), .reg barS)
abbrev sendCell (s : Fin 3) (c : Dev nD) : GSem nD τ sig := ((c : Thread nD τ), .dma (sendS s))
abbrev recvCell (s : Fin 3) (c : Dev nD) : GSem nD τ sig := ((c : Thread nD τ), .dma (recvS s))

/-- What a semaphore is to the exchange. -/
inductive Role | bar | snd (s : Fin 3) | rcv (s : Fin 3) | other
  deriving DecidableEq

/-- The semaphore's role. -/
def role (sm : SemLoc sig) : Role :=
  if sm = .reg barS then .bar
  else if sm = .dma (sendS 0) then .snd 0 else if sm = .dma (sendS 1) then .snd 1 else if sm = .dma (sendS 2) then .snd 2
  else if sm = .dma (recvS 0) then .rcv 0 else if sm = .dma (recvS 1) then .rcv 1 else if sm = .dma (recvS 2) then .rcv 2
  else .other

theorem role_bar : role (.reg barS) = .bar := if_pos rfl
theorem role_snd (s : Fin 3) : role (.dma (sendS s)) = .snd s := by revert s; decide +kernel
theorem role_rcv (s : Fin 3) : role (.dma (recvS s)) = .rcv s := by revert s; decide +kernel

/-- The credit of one slot's transfer. -/
abbrev N : ℕ := (recvM 0).view.dmaCredit
theorem N_pos : 0 < N := View.dmaCredit_pos _ (by decide)

/-! ## Contents of the slots -/

def sendPts (s : Fin 3) (c : Dev nD) (f : Buf (Elt F) ((sendM s).view.loc (c : Thread nD τ))) : sProp 𝕄 :=
  (sendM s).view.loc (c : Thread nD τ) ↦[(sendM s).view.set]{fullShare} f
def recvPts (s : Fin 3) (c : Dev nD) (f : Buf (Elt F) ((recvM s).view.loc (c : Thread nD τ))) : sProp 𝕄 :=
  (recvM s).view.loc (c : Thread nD τ) ↦[(recvM s).view.set]{fullShare} f

instance sendPts_storable (s : Fin 3) (c : Dev nD) (f) : BI.Storable (upEmb : UEmb _ 𝕄) (sendPts (F := F) s c f) := by
  unfold sendPts; infer_instance
instance recvPts_storable (s : Fin 3) (c : Dev nD) (f) : BI.Storable (upEmb : UEmb _ 𝕄) (recvPts (F := F) s c f) := by
  unfold recvPts; infer_instance

/-- The receive slot `s` reads as what device `c`'s partner sends in round `s`. -/
def Got (s : Fin 3) (c : Dev nD) (f : (cc0_scratch4 : Ref sig .tc).ty.Contents (Elt F)) : Prop :=
  recvW.view.readAt (Elt F) (rO s).toLoadRect f = po m s (peer s c) ∧ recvW.view.readAt (Elt F) (rL s).toLoadRect f = pl m s (peer s c)
/-- The send slot `s` reads as what device `c` sends in round `s`. -/
def Put (s : Fin 3) (c : Dev nD) (f : (cc0_scratch3 : Ref sig .tc).ty.Contents (Elt F)) : Prop :=
  sendW.view.readAt (Elt F) (rO s).toLoadRect f = po m s c ∧ sendW.view.readAt (Elt F) (rL s).toLoadRect f = pl m s c

theorem recv_set (s : Fin 3) : (recvM s).view.set = (rSlot s).set :=
  (View.set_reshape _ _).trans (View.set_slice_whole _ _)
theorem send_set (s : Fin 3) : (sendM s).view.set = (rSlot s).set :=
  (View.set_reshape _ _).trans (View.set_slice_whole _ _)

theorem rO_sub (s : Fin 3) : (rO s).set ⊆ (rSlot s).set := fun i hi => by
  rw [Rect.mem_set_unit] at hi ⊢
  intro a; have h := hi a
  fin_cases a <;> simp_all
  · omega
theorem rL_sub (s : Fin 3) : (rL s).set ⊆ (rSlot s).set := fun i hi => by
  rw [Rect.mem_set_unit] at hi ⊢
  intro a; have h := hi a
  fin_cases a <;> simp_all
theorem rO_rL (s : Fin 3) : Disjoint (rO s).set (rL s).set := Finset.disjoint_left.mpr fun i h h' => by
  rw [Rect.mem_set_unit] at h h'
  have h1 := (h 2).2; have h2 := (h' 2).1
  simp at h1 h2; omega

/-- After the transfer the partner's slot holds what the sender's held. -/
theorem xfer_apply (s : Fin 3) (fd : (cc0_scratch4 : Ref sig .tc).ty.Contents (Elt F)) (fs : (cc0_scratch3 : Ref sig .tc).ty.Contents (Elt F))
    (i : S3x1024x129.Idx) (hi : i ∈ (rSlot s).set) :
    (recvM s).view.write (Elt F) fd ((sendM s).view.read (Elt F) fs) Finset.univ i = fs i := by
  rw [← recv_set] at hi
  obtain ⟨y, -, rfl⟩ := Finset.mem_map.mp hi
  exact View.write_emb_of_mem _ _ (Finset.mem_univ y)

theorem xfer_got (s : Fin 3) (c : Dev nD) (fd : (cc0_scratch4 : Ref sig .tc).ty.Contents (Elt F)) (fs : (cc0_scratch3 : Ref sig .tc).ty.Contents (Elt F))
    (h : Put m s c fs) : Got m s (peer s c) ((recvM s).view.write (Elt F) fd ((sendM s).view.read (Elt F) fs) Finset.univ) := by
  unfold Got; rw [peer_peer]
  refine ⟨Eq.trans (funext fun x => ?_) h.1, Eq.trans (funext fun x => ?_) h.2⟩
  · exact xfer_apply s fd fs _ (rO_sub s (LoadRect.idx_mem _ x))
  · exact xfer_apply s fd fs _ (rL_sub s (LoadRect.idx_mem _ x))

/-! ## The schedule -/

/-- What duty `s` of device `c`'s barrier cell hands it: the partner's receive slot `s`, at round 0 of its cell. -/
def barPay (s : Fin 3) (c : Dev nD) : sProp 𝕄 := iprop((∃ f, recvPts s (peer s c) f) ∗ reached ER (recvCell s (peer s c)) 0)
def recvPay (s : Fin 3) (c : Dev nD) : sProp 𝕄 := iprop(∃ f, recvPts s c f ∗ ⌜Got m s c f⌝)
def sendPay (s : Fin 3) (c : Dev nD) : sProp 𝕄 := iprop(∃ f, sendPts s c f)

/-- One round: a barrier cell has the three duties of one unit each, a send or receive cell one duty of a slot's credit. -/
def ringRd : Rounds.Schedule (GSem nD τ sig) (Fin 3) 𝕄 where
  duties g r := if r = 0 ∧ g.1.2 = .tc then (match role g.2 with | .bar => Finset.univ | .snd _ => {0} | .rcv _ => {0} | .other => ∅) else ∅
  unitless _ := False
  amount g _ _ := match role g.2 with | .bar => 1 | _ => N
  payload g _ d := match role g.2 with
    | .bar => barPay d g.1.1
    | .snd s => sendPay s g.1.1
    | .rcv s => recvPay m s g.1.1
    | .other => iprop(emp)
  amount_pos g _ _ _ := by split; exacts [Nat.one_pos, N_pos]

instance ringRd_payload_storable (g : GSem nD τ sig) (r : ℕ) (d : Fin 3) :
    BI.Storable (upEmb : UEmb _ 𝕄) ((ringRd (F := F) m).payload g r d) := by
  show BI.Storable upEmb (match role g.2 with
    | .bar => barPay d g.1.1 | .snd s => sendPay s g.1.1 | .rcv s => recvPay m s g.1.1 | .other => iprop(emp))
  unfold barPay recvPay sendPay
  split <;> infer_instance

section Sched
variable (c : Dev nD) (s : Fin 3)

theorem duties_bar : (ringRd (F := F) m).duties (barCell c) 0 = Finset.univ := by
  dsimp only [ringRd]; rw [if_pos ⟨rfl, rfl⟩, role_bar]
theorem duties_send : (ringRd (F := F) m).duties (sendCell s c) 0 = {0} := by
  dsimp only [ringRd]; rw [if_pos ⟨rfl, rfl⟩, role_snd]
theorem duties_recv : (ringRd (F := F) m).duties (recvCell s c) 0 = {0} := by
  dsimp only [ringRd]; rw [if_pos ⟨rfl, rfl⟩, role_rcv]
theorem duties_later (g : GSem nD τ sig) : ∀ r, 1 ≤ r → (ringRd (F := F) m).duties g r = ∅ :=
  fun r hr => by dsimp only [ringRd]; rw [if_neg fun h => by omega]

theorem amount_bar (d : Fin 3) : (ringRd (F := F) m).amount (barCell c) 0 d = 1 := by dsimp only [ringRd]; rw [role_bar]
theorem amount_send (d : Fin 3) : (ringRd (F := F) m).amount (sendCell s c) 0 d = N := by dsimp only [ringRd]; rw [role_snd]
theorem amount_recv (d : Fin 3) : (ringRd (F := F) m).amount (recvCell s c) 0 d = N := by dsimp only [ringRd]; rw [role_rcv]

theorem expect_bar : (ringRd (F := F) m).expect (barCell c) 0 = 3 := by
  unfold Schedule.expect Schedule.amountOf
  rw [duties_bar, Finset.sum_congr rfl fun d _ => amount_bar m c d, Finset.sum_const, Finset.card_univ, Fintype.card_fin, smul_eq_mul]
theorem expect_send : (ringRd (F := F) m).expect (sendCell s c) 0 = N := by
  unfold Schedule.expect Schedule.amountOf; rw [duties_send, Finset.sum_singleton, amount_send]
theorem expect_recv : (ringRd (F := F) m).expect (recvCell s c) 0 = N := by
  unfold Schedule.expect Schedule.amountOf; rw [duties_recv, Finset.sum_singleton, amount_recv]

theorem payload_bar (d : Fin 3) : (ringRd (F := F) m).payload (barCell c) 0 d = barPay d c := by dsimp only [ringRd]; rw [role_bar]
theorem payload_send (d : Fin 3) : (ringRd (F := F) m).payload (sendCell s c) 0 d = sendPay s c := by dsimp only [ringRd]; rw [role_snd]
theorem payload_recv (d : Fin 3) : (ringRd (F := F) m).payload (recvCell s c) 0 d = recvPay m s c := by dsimp only [ringRd]; rw [role_rcv]

theorem bigSep_fin3 (Φ : Fin 3 → sProp 𝕄) : bigSep Finset.univ Φ = iprop(Φ 0 ∗ Φ 1 ∗ Φ 2) :=
  bigSep_univ_eq_bigSepL [0, 1, 2] (by decide) (by decide) Φ

theorem rest_bar : bigSep ((ringRd (F := F) m).duties (barCell c) 0 \ ∅) (fun d => (ringRd (F := F) m).payload (barCell c) 0 d)
    = iprop(barPay 0 c ∗ barPay 1 c ∗ barPay 2 c) := by
  rw [Finset.sdiff_empty, duties_bar, bigSep_fin3, payload_bar, payload_bar, payload_bar]
theorem rest_send : bigSep ((ringRd (F := F) m).duties (sendCell s c) 0 \ ∅) (fun d => (ringRd (F := F) m).payload (sendCell s c) 0 d) = sendPay s c := by
  rw [Finset.sdiff_empty, duties_send, bigSep_singleton, payload_send]
theorem rest_recv : bigSep ((ringRd (F := F) m).duties (recvCell s c) 0 \ ∅) (fun d => (ringRd (F := F) m).payload (recvCell s c) 0 d) = recvPay m s c := by
  rw [Finset.sdiff_empty, duties_recv, bigSep_singleton, payload_recv]

end Sched

/-! ## What each core owes at launch; the levels -/

/-- The credit device `c` owes its partner's receive cell of round `s`; the unit it owes its partner's barrier cell. -/
abbrev tR (s : Fin 3) (c : Dev nD) : CellTallies nD τ sig Unit := tallyAt (recvCell s (peer s c)) () N
abbrev tB (s : Fin 3) (c : Dev nD) : CellTallies nD τ sig Unit := tallyAt (barCell (peer s c)) () 1

/-- What is owed before each send, last first, and before each signal. -/
def OR (c : Dev nD) : CellTallies nD τ sig Unit := tR 2 c + tR 1 c + tR 0 c
def O₀ (c : Dev nD) : CellTallies nD τ sig Unit := OR c + tB 2 c + tB 1 c + tB 0 c

def L (g : GSem nD τ sig) : Finset Unit := if g.1.2 = .tc then {()} else ∅
/-- Barrier cells at 1, the receive cells of round `s` at `2 + s`, everything else at 0. -/
def lvR : Role → ℕ | .bar => 1 | .rcv s => 2 + s.val | _ => 0
def lv (g : GSem nD τ sig) (_ : Unit) : ℕ := lvR (role g.2)

theorem L_of_ne (g : GSem nD τ sig) (h : g.1.2 ≠ .tc) : L g = ∅ := if_neg h
theorem L_tc (c : Dev nD) (sm : SemLoc sig) : L ((c : Thread nD τ), sm) = {()} := if_pos rfl

theorem pos_add {A B : CellTallies nD τ sig Unit} {g : GSem nD τ sig} {u : Unit} (h : 0 < (A + B) g u) : 0 < A g u ∨ 0 < B g u := by
  rw [Pi.add_apply, Finsupp.add_apply] at h; omega
theorem pos_tally {g' g : GSem nD τ sig} {u : Unit} {n : ℕ} (h : 0 < (tallyAt g' () n : CellTallies nD τ sig Unit) g u) : g = g' := by
  rw [tallyAt_apply] at h
  by_contra hn
  rw [if_neg (fun h' => hn h'.1)] at h
  exact Nat.lt_irrefl 0 h

/-- A cell of level `n` or below may be waited on by a core that owes only cells above `n`. -/
theorem mayWait_of (c : Dev nD) (sm : SemLoc sig) (O : CellTallies nD τ sig Unit)
    (h : ∀ g u, 0 < O g u → ∃ (d : Dev nD) (sm' : SemLoc sig), g = ((d : Thread nD τ), sm') ∧ lvR (role sm) < lvR (role sm')) :
    (levAts L lv : sProp 𝕄) ⊢ MayWait (c : Thread nD τ) sm () O :=
  MayOwe.of_cut (L := L) (lev := lv) (lvR (role sm)) (fun p hp => by rw [Finset.mem_singleton.mp hp, L_tc]; exact Finset.mem_singleton_self _)
    (fun g u hg => by obtain ⟨d, sm', rfl, -⟩ := h g u hg; rw [L_tc]; exact Finset.mem_singleton_self _)
    (fun p hp => by rw [Finset.mem_singleton.mp hp]; exact le_refl _)
    (fun g u hg => by obtain ⟨d, sm', rfl, h'⟩ := h g u hg; exact h')

theorem OR_pos {c : Dev nD} {g : GSem nD τ sig} {u : Unit} (h : 0 < OR c g u) : ∃ s, g = recvCell s (peer s c) := by
  unfold OR at h
  rcases pos_add h with h | h
  · rcases pos_add h with h | h
    · exact ⟨2, pos_tally h⟩
    · exact ⟨1, pos_tally h⟩
  · exact ⟨0, pos_tally h⟩

theorem O₀_pos {c : Dev nD} {g : GSem nD τ sig} {u : Unit} (h : 0 < O₀ c g u) :
    (∃ s, g = recvCell s (peer s c)) ∨ ∃ s, g = barCell (peer s c) := by
  unfold O₀ at h
  rcases pos_add h with h | h
  · rcases pos_add h with h | h
    · rcases pos_add h with h | h
      · exact .inl (OR_pos h)
      · exact .inr ⟨2, pos_tally h⟩
    · exact .inr ⟨1, pos_tally h⟩
  · exact .inr ⟨0, pos_tally h⟩

/-- A semaphore that is neither a barrier nor a receive one may be waited on at any time before the sends, -/
theorem mayWait_low (c : Dev nD) (sm : SemLoc sig) (h0 : lvR (role sm) = 0) : (levAts L lv : sProp 𝕄) ⊢ MayWait (c : Thread nD τ) sm () (O₀ c) :=
  mayWait_of c sm _ fun g u hg => by
    rcases O₀_pos hg with ⟨s, rfl⟩ | ⟨s, rfl⟩
    · exact ⟨_, _, rfl, by rw [h0, role_rcv]; exact Nat.lt_of_lt_of_le Nat.two_pos (Nat.le_add_right 2 _)⟩
    · exact ⟨_, _, rfl, by rw [h0, role_bar]; exact Nat.one_pos⟩
/-- the barrier once the signals are paid, and a semaphore of level at most 1 then; -/
theorem mayWait_bar (c : Dev nD) (sm : SemLoc sig) (h1 : lvR (role sm) ≤ 1) : (levAts L lv : sProp 𝕄) ⊢ MayWait (c : Thread nD τ) sm () (OR c) :=
  mayWait_of c sm _ fun g u hg => by
    obtain ⟨s, rfl⟩ := OR_pos hg
    exact ⟨_, _, rfl, by rw [role_rcv]; exact Nat.lt_of_le_of_lt h1 (Nat.lt_of_lt_of_le (Nat.lt_succ_self 1) (Nat.le_add_right 2 _))⟩
/-- a semaphore up to round 0's receive once round 0's credit is paid, -/
theorem mayWait_one (c : Dev nD) (sm : SemLoc sig) (h2 : lvR (role sm) ≤ 2) : (levAts L lv : sProp 𝕄) ⊢ MayWait (c : Thread nD τ) sm () (tR 2 c + tR 1 c) :=
  mayWait_of c sm _ fun g u hg => by
    rcases pos_add hg with h | h
    · obtain rfl := pos_tally h; exact ⟨_, _, rfl, by rw [role_rcv]; exact Nat.lt_of_le_of_lt h2 (by decide)⟩
    · obtain rfl := pos_tally h; exact ⟨_, _, rfl, by rw [role_rcv]; exact Nat.lt_of_le_of_lt h2 (by decide)⟩
/-- and one up to round 1's once round 1's is. -/
theorem mayWait_two (c : Dev nD) (sm : SemLoc sig) (h3 : lvR (role sm) ≤ 3) : (levAts L lv : sProp 𝕄) ⊢ MayWait (c : Thread nD τ) sm () (tR 2 c) :=
  mayWait_of c sm _ fun g u hg => by
    obtain rfl := pos_tally hg; exact ⟨_, _, rfl, by rw [role_rcv]; exact Nat.lt_of_le_of_lt h3 (by decide)⟩

end Cert.RunProof

end
-- ==== Proof.Loop.lean ====
/-
# The chunk loop

The two double-buffered streams of chunks (keys and values): a transfer started and awaited as one step each, and the
loop's invariant — before trip `t` chunk `2 t` of either array is on its way into the first slot, the second slot is
free, and the carried values are `accAt … t`.
-/
module

public import proofs.«01_k».proof.Proof.Protocol
public import proofs.«01_k».proof.Proof.Gen.KernelIdeal.Loops

@[expose] public section

noncomputable section

namespace Cert.RunProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ## One stream's transfers -/

theorem inb_buf (s : Fin 2) : ∀ a, (![s.val, 0, 0, 0] : Fin 4 → Nat) a + S1x2048x2x128.size a ≤ S2x2048x2x128.size a := by revert s; decide

/-- Slot `s` of a double buffer. -/
abbrev rB (s : Fin 2) : Rect S2x2048x2x128 := Rect.unit (s := S2x2048x2x128) ![s.val, 0, 0, 0] S1x2048x2x128.size (inb_buf s)

section Stream

variable (A : Memref sig .tc .hbm S1x32768x2x128 .f32) (B : Memref sig .tc .vmem S2x2048x2x128 .f32)

abbrev dstM (s : Fin 2) : Memref sig .tc .vmem S2048x2x128 .f32 :=
  (B.slice (rB s) (fun _ => rfl)).squeeze S2048x2x128 squeezes_S1x2048x2x128_S2048x2x128
abbrev srcM (off : Fin 4 → Nat) (inb : ∀ a, off a + S1x2048x2x128.size a ≤ S1x32768x2x128.size a) : Memref sig .tc .hbm S2048x2x128 .f32 :=
  (A.slice (Rect.unit (s := S1x32768x2x128) off S1x2048x2x128.size inb) (fun _ => rfl)).squeeze S2048x2x128 squeezes_S1x2048x2x128_S2048x2x128

/-- A slot written through its squeezed view from a squeezed chunk reads, unsqueezed, as the chunk. -/
theorem read_filled (s : Fin 2) (off : Fin 4 → Nat) (inb) (c : Dev nD)
    (fd : Buf (Elt F) ((dstM B s).view.loc (c : Thread nD τ))) (X : Buf (Elt F) (A.view.loc (c : Thread nD τ))) :
    B.view.readAt (Elt F) (rB s).toLoadRect ((dstM B s).view.write (Elt F) fd ((srcM A off inb).view.read (Elt F) X) Finset.univ)
      = (A.view.slice (Rect.unit (s := S1x32768x2x128) off S1x2048x2x128.size inb)).read (Elt F) X := by
  funext x
  obtain ⟨y, rfl⟩ := (Shape.reshapeEquiv (Shape.Squeezes.numel_eq squeezes_S1x2048x2x128_S2048x2x128)).surjective x
  exact View.read_write_of_mem (v := (dstM B s).view) fd ((srcM A off inb).view.read (Elt F) X) (Finset.mem_univ y)

/-- The rectangle of 2048 rows from row `2048 j` on reads chunk `j`. -/
theorem read_chunk {off : Fin 4 → Nat} (inb) {j : ℕ} (hj : j < 16) (h : off = ![0, 2048 * j, 0, 0]) (c : Dev nD) (X : Buf (Elt F) (A.view.loc (c : Thread nD τ))) :
    (A.view.slice (Rect.unit (s := S1x32768x2x128) off S1x2048x2x128.size inb)).read (Elt F) X = chunk (A.view.read (Elt F) X) j := by
  subst h
  funext i
  show A.view.read (Elt F) X ((Rect.unit (s := S1x32768x2x128) ![0, 2048 * j, 0, 0] S1x2048x2x128.size inb).emb i) = A.view.read (Elt F) X (rowOf j i)
  congr 1
  have h1 : (i 1).val < 2048 := (i 1).isLt
  funext a
  apply Fin.ext
  rw [Rect.emb_apply]
  fin_cases a
  · simp [rowOf, ix4]
  · simp [rowOf, ix4]; omega
  · simp [rowOf, ix4]
  · simp [rowOf, ix4]

/-- Slot `s` owned, at whatever contents; -/
def Free (s : Fin 2) (c : Dev nD) : sProp 𝕄 := iprop(∃ f, (dstM B s).view.loc (c : Thread nD τ) ↦[(dstM B s).view.set]{fullShare} f)
/-- slot `s` holding `w`; -/
def Slot (s : Fin 2) (c : Dev nD) (w : Vec F S1x2048x2x128 .f32) : sProp 𝕄 :=
  iprop(∃ f, ((dstM B s).view.loc (c : Thread nD τ) ↦[(dstM B s).view.set]{fullShare} f) ∗ ⌜B.view.readAt (Elt F) (rB s).toLoadRect f = w⌝)
/-- the array read; -/
def Arr (c : Dev nD) (X : Buf (Elt F) (A.view.loc (c : Thread nD τ))) : sProp 𝕄 := A.view.loc (c : Thread nD τ) ↦[A.view.set]{fullShare} X
/-- chunk `j` on its way into slot `s`, on semaphore `sm`: the chunk's rows with the transfer, the others here. -/
def InFl (s : Fin 2) (c : Dev nD) (sm : DmaSem sig) (X : Buf (Elt F) (A.view.loc (c : Thread nD τ))) (j : ℕ) : sProp 𝕄 :=
  iprop(∃ I : Finset (Idx (A.view.loc (c : Thread nD τ))), ⌜I ⊆ A.view.set⌝
    ∗ Transfers.Flight countersEmb (c : Thread nD τ) (.dma sm) () (dstM B s).view.dmaCredit
        iprop(Slot B s c (chunk (A.view.read (Elt F) X) j) ∗ (A.view.loc (c : Thread nD τ) ↦[I]{fullShare} X))
    ∗ (A.view.loc (c : Thread nD τ) ↦[A.view.set \ I]{fullShare} X))

theorem src_sub (off : Fin 4 → Nat) (inb) : (srcM A off inb).view.set ⊆ A.view.set := by
  rw [show (srcM A off inb).view.set = _ from View.set_reshape _ _]
  exact View.set_slice_subset _ _

set_option maxHeartbeats 800000 in
/-- A transfer of chunk `j` into slot `s` started. -/
theorem wp_start (s : Fin 2) (c : Dev nD) (sm : DmaSem sig) (off : Fin 4 → Nat) (inb) {j : ℕ} (hj : j < 16) (h : off = ![0, 2048 * j, 0, 0])
    (X : Buf (Elt F) (A.view.loc (c : Thread nD τ)))
    {hsrc : (srcM A off inb).view.WordExact} {hdst : (dstM B s).view.WordExact}
    {hsem : DmaTarget.Typed (nD := nD) .hbm (SemLoc.dma sm) (.here (dstM B s) : DmaTarget nD τ sig (Proc.tc) .vmem S2048x2x128 .f32)}
    {α : Type} {Q : α → sProp 𝕄} {k : PUnit → Prog (TpuEff nD τ sig (Elt F) Λ₀ .tc) α} :
    iprop(Arr A c X ∗ Free B s c ∗ semVal ((c : Thread nD τ), SemLoc.dma sm) 0)
      ⊢ iprop((InFl A B s c sm X j -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (srcM A off inb) (.here (dstM B s)) (.dma sm) hsrc hdst hsem) k) Q) := by
  unfold Arr Free
  iintro ⟨HA, ⟨%fd, HB⟩, Hs⟩ Hk
  ihave HA := (pointsTo_split_subset (f := X) (src_sub A off inb)).1 $$ HA
  icases HA with ⟨HI, HR⟩
  iapply (Transfers.wp_dmaLocal countersEmb 𝒱₀ (c : Thread nD τ) none () (dstM B s).view.dmaCredit rfl
      (View.dmaCredit_pos _ (by decide)) (Finset.Subset.refl _)) $$ [HI HB Hs]
  · isplitl [HI]; · iexact HI
    isplitl [HB] <;> iassumption
  iintro HF
  iapply Hk
  unfold InFl
  iexists (srcM A off inb).view.set
  isplitr; · ipureintro; exact src_sub A off inb
  isplitl [HF]
  · iapply (Transfers.Flight_mono countersEmb (c : Thread nD τ) ?_) $$ HF
    iintro ⟨HB, HI⟩
    isplitl [HB]
    · unfold Slot
      iexists _
      isplitl [HB]; · iexact HB
      ipureintro
      exact (read_filled A B s off inb c fd X).trans (read_chunk A inb hj h c X)
    · iexact HI
  · iexact HR

set_option maxHeartbeats 800000 in
/-- The wait for it: the slot holds the chunk, the array is whole again. -/
theorem wp_finish (s : Fin 2) (c : Dev nD) (sm : DmaSem sig) (j : ℕ) (X : Buf (Elt F) (A.view.loc (c : Thread nD τ)))
    (O : CellTallies nD τ sig Unit) (W : Waits sig Unit)
    {s' : Shape} {e' : EltTy} {sp' : Space} {srcw : Memref sig .tc sp' s' e'}
    {hsrc : srcw.view.WordExact} {hdst : (dstM B s).view.WordExact}
    {α : Type} {Q : α → sProp 𝕄} {k : PUnit → Prog (TpuEff nD τ sig (Elt F) Λ₀ .tc) α} :
    iprop(InFl A B s c sm X j ∗ owes (c : Thread nD τ) O W ∗ MayWait (c : Thread nD τ) (.dma sm) () O)
      ⊢ iprop((iprop(Slot B s c (chunk (A.view.read (Elt F) X) j) ∗ Arr A c X ∗ semVal ((c : Thread nD τ), SemLoc.dma sm) 0
              ∗ owes (c : Thread nD τ) O (insert (SemLoc.dma sm, ()) W))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 sm srcw (dstM B s) hsrc hdst) k) Q) := by
  unfold InFl
  iintro ⟨⟨%I, %hI, HF, HR⟩, HO, Hw⟩ Hk
  iapply (Transfers.wp_waitLocalO countersEmb 𝒱₀ (c : Thread nD τ) none () (rfl : (dstM B s).view.dmaCredit = _)) $$ [HF HO Hw]
  · isplitl [HF]; · iexact HF
    isplitl [HO] <;> iassumption
  iintro ⟨⟨HS, HI⟩, Hs, HO⟩
  iapply Hk
  isplitl [HS]; · iexact HS
  isplitl [HI HR]
  · unfold Arr
    iapply (pointsTo_split_subset (f := X) hI).2
    isplitl [HI] <;> iassumption
  isplitl [Hs] <;> iassumption

theorem slot_free (s : Fin 2) (c : Dev nD) (w : Vec F S1x2048x2x128 .f32) : (Slot B s c w : sProp 𝕄) ⊢ Free B s c := by
  unfold Slot Free
  iintro ⟨%f, H, -⟩
  iexists f; iexact H

theorem slot_load_sub (s : Fin 2) : B.view.setOn (rB s).toLoadRect.set ⊆ (dstM B s).view.set := by
  rw [show (dstM B s).view.set = _ from View.set_reshape _ _, View.set_slice]
  exact Finset.Subset.refl _

set_option maxHeartbeats 800000 in
/-- A load of a slot reads what it holds. -/
theorem wp_loadSlot (s : Fin 2) (c : Dev nD) (w : Vec F S1x2048x2x128 .f32) {hl : B.view.LoadsAt (rB s).toLoadRect}
    {α : Type} {Q : α → sProp 𝕄} {k : Vec F S1x2048x2x128 .f32 → Prog (TpuEff nD τ sig (Elt F) Λ₀ .tc) α} :
    (Slot B s c w : sProp 𝕄)
      ⊢ iprop((Slot B s c w -∗ wp frame (wpE (defs₀ (F := F)) 𝒱₀ (c : Thread nD τ) none) Set.univ (k w) Q)
          -∗ wp frame (wpE (defs₀ (F := F)) 𝒱₀ (c : Thread nD τ) none) Set.univ (.op (.load B (rB s).toLoadRect hl) k) Q) := by
  unfold Slot
  iintro ⟨%f, H, %hf⟩ Hk
  iapply (wp_load 𝒱₀ (c : Thread nD τ) none Set.univ (m := B) (slot_load_sub B s)) $$ H
  iintro H
  rw [hf]
  iapply Hk
  iexists f
  isplitl [H]; · iexact H
  ipureintro; exact hf

end Stream

/-! ## The loop -/

abbrev kM : Memref sig .tc .hbm S1x32768x2x128 .f32 := Memref.whole main_arg3
abbrev vM : Memref sig .tc .hbm S1x32768x2x128 .f32 := Memref.whole main_arg4
abbrev kB : Memref sig .tc .vmem S2x2048x2x128 .f32 := Memref.whole cc0_scratch0
abbrev vB : Memref sig .tc .vmem S2x2048x2x128 .f32 := Memref.whole cc0_scratch1

theorem inb_dS (s w : Fin 2) : ∀ a, (![s.val, w.val] : Fin 2 → Nat) a + S1x1.size a ≤ S2x2.size a := by revert s w; decide
/-- The semaphore of slot `s`'s transfers, of keys (`w = 0`) or values (`w = 1`). -/
abbrev dS (s w : Fin 2) : DmaSem sig :=
  ((cc0_scratch2.slice (Rect.unit (s := S2x2) ![s.val, w.val] S1x1.size (inb_dS s w))).squeeze S_ squeezes_S1x1_S_).sem

section Trip

variable (m : (ℓ : Loc nD τ sig) → Buf (Elt F) ℓ) (c : Dev nD) (q0 q1 : FVec F S512x128 .bf16)

/-- Slot `s` of either buffer free; chunk `j` of either array on its way into it; the arrays. -/
def Idle (s : Fin 2) : sProp 𝕄 :=
  iprop(Free kB s c ∗ Free vB s c ∗ semVal ((c : Thread nD τ), SemLoc.dma (dS s 0)) 0 ∗ semVal ((c : Thread nD τ), SemLoc.dma (dS s 1)) 0)
def Flying (s : Fin 2) (j : ℕ) : sProp 𝕄 := iprop(InFl kM kB s c (dS s 0) (ks m c) j ∗ InFl vM vB s c (dS s 1) (vs m c) j)
def Arrs : sProp 𝕄 := iprop(Arr kM c (ks m c) ∗ Arr vM c (vs m c))

/-- Before trip `t`. -/
def loopInv (t : ℕ) (a : Acc F) : sProp 𝕄 :=
  iprop(⌜a = accAt q0 q1 (ks m c) (vs m c) t⌝ ∗ (if t < 8 then Flying m c 0 (2 * t) else iprop(Arrs m c ∗ Idle c 0)) ∗ Idle c 1
    ∗ levAts L lv ∗ ∃ W, owes (c : Thread nD τ) (OR c) W)

theorem dS_low (s w : Fin 2) : lvR (role (.dma (dS s w))) ≤ 1 := by revert s w; decide +kernel
theorem mayWait_dS (s w : Fin 2) : (levAts L lv : sProp 𝕄) ⊢ MayWait (c : Thread nD τ) (.dma (dS s w)) () (OR c) := mayWait_bar c _ (dS_low s w)

theorem read_kM (X : Vec F S1x32768x2x128 .f32) : kM.view.read (Elt F) X = X := View.read_whole _ _
theorem read_vM (X : Vec F S1x32768x2x128 .f32) : vM.view.read (Elt F) X = X := View.read_whole _ _

theorem cond1_iff (t : Fin k0_t1_loop.trips) : k0_cond1 t = 1#1 ↔ t.val < 7 := by revert t; decide +kernel
theorem off1_eq (t : Fin k0_t1_loop.trips) : k0_off1 t = ![0, 2048 * (2 * t.val + 1), 0, 0] := by
  rw [k0_off1_eq]; congr 2; omega
theorem off2_eq (t : Fin k0_t1_loop.trips) : k0_off2 t = ![0, 2048 * (2 * (t.val + 1)), 0, 0] := by
  rw [k0_off2_eq]; congr 2; omega
theorem trips_eq : k0_t1_loop.trips = 8 := by decide +kernel

abbrev trip (v2 : BitVec 32) (v61 : FVec F S512x128 .f32) (v62 : FVec F S512x1 .f32) (v63 : FVec F S512x128 .f32) (v64 : FVec F S512x1 .f32) :=
  k0_t1_body (F := F) (Memref.whole cc0_stg0_0) (Memref.isWhole_whole _) (Memref.whole cc0_stg1_0) (Memref.isWhole_whole _)
    (Memref.whole cc0_stg2_0) (Memref.isWhole_whole _) (Memref.whole main_arg3) (Memref.isWhole_whole _) (Memref.whole main_arg4) (Memref.isWhole_whole _)
    (Memref.whole cc0_stg3_0) (Memref.isWhole_whole _) (Memref.whole cc0_scratch0) (Memref.isWhole_whole _) (Memref.whole cc0_scratch1) (Memref.isWhole_whole _)
    cc0_scratch2 (Memref.whole cc0_scratch3) (Memref.isWhole_whole _) (Memref.whole cc0_scratch4) (Memref.isWhole_whole _) cc0_scratch5 cc0_scratch6
    v2 q0 q1 v61 v62 v63 v64

set_option maxHeartbeats 3200000 in
set_option maxRecDepth 8000 in
/-- One trip. -/
theorem wp_trip (v2 : BitVec 32) (v61 : FVec F S512x128 .f32) (v62 : FVec F S512x1 .f32) (v63 : FVec F S512x128 .f32) (v64 : FVec F S512x1 .f32)
    (t : Fin k0_t1_loop.trips) (a : Acc F) :
    loopInv m c q0 q1 t.val a ⊢ wp frame (wpE (defs₀ (F := F)) 𝒱₀ (c : Thread nD τ) none) Set.univ (trip q0 q1 v2 v61 v62 v63 v64 t a) (loopInv m c q0 q1 (t.val + 1)) := by
  have ht : t.val < 8 := lt_of_lt_of_eq t.isLt trips_eq
  have hstep : tripStep q0 q1 (chunk (kM.view.read (Elt F) (ks m c)) (2 * t.val)) (chunk (vM.view.read (Elt F) (vs m c)) (2 * t.val))
      (chunk (kM.view.read (Elt F) (ks m c)) (2 * t.val + 1)) (chunk (vM.view.read (Elt F) (vs m c)) (2 * t.val + 1)) (accAt q0 q1 (ks m c) (vs m c) t.val)
      = accAt q0 q1 (ks m c) (vs m c) (t.val + 1) := rfl
  unfold trip k0_t1_body
  simp only [k0_part1_eq_skeleton, k0_part2_eq_skeleton, k0_part3_eq_skeleton]
  unfold k0_part1_skel k0_part2_skel k0_part3_skel
  simp only [Prog.lift, Prog.bind_op, Prog.bind_ret, Prog.pure_eq_ret]
  unfold loopInv
  rw [if_pos ht]
  unfold Flying
  iintro ⟨%ha, ⟨HK, HV⟩, HI1, #Hlev, ⟨%W, HO⟩⟩
  iapply (wp_finish kM kB 0 c (dS 0 0) (2 * t.val) (ks m c) (OR c) W) $$ [HK HO]
  · isplitl [HK]; · iexact HK
    isplitl [HO]; · iexact HO
    iapply (mayWait_dS c 0 0); iexact Hlev
  iintro ⟨HSK0, HAK, HsK0, HO⟩
  iapply (wp_finish vM vB 0 c (dS 0 1) (2 * t.val) (vs m c) (OR c) (insert (SemLoc.dma (dS 0 0), ()) W)) $$ [HV HO]
  · isplitl [HV]; · iexact HV
    isplitl [HO]; · iexact HO
    iapply (mayWait_dS c 0 1); iexact Hlev
  iintro ⟨HSV0, HAV, HsV0, HO⟩
  unfold Idle
  icases HI1 with ⟨HFK1, HFV1, HsK1, HsV1⟩
  iapply (wp_start kM kB 1 c (dS 1 0) (k0_off1 t) _ (j := 2 * t.val + 1) (by omega) (off1_eq t) (ks m c)) $$ [HAK HFK1 HsK1]
  · isplitl [HAK]; · iexact HAK
    isplitl [HFK1] <;> iassumption
  iintro HK
  iapply (wp_start vM vB 1 c (dS 1 1) (k0_off1 t) _ (j := 2 * t.val + 1) (by omega) (off1_eq t) (vs m c)) $$ [HAV HFV1 HsV1]
  · isplitl [HAV]; · iexact HAV
    isplitl [HFV1] <;> iassumption
  iintro HV
  iapply (wp_loadSlot kB 0 c _) $$ HSK0; iintro HSK0
  iapply (wp_loadSlot vB 0 c _) $$ HSV0; iintro HSV0
  iapply (wp_loadSlot kB 0 c _) $$ HSK0; iintro HSK0
  iapply (wp_loadSlot vB 0 c _) $$ HSV0; iintro HSV0
  iapply (wp_finish kM kB 1 c (dS 1 0) (2 * t.val + 1) (ks m c) (OR c) (insert (SemLoc.dma (dS 0 1), ()) (insert (SemLoc.dma (dS 0 0), ()) W))) $$ [HK HO]
  · isplitl [HK]; · iexact HK
    isplitl [HO]; · iexact HO
    iapply (mayWait_dS c 1 0); iexact Hlev
  iintro ⟨HSK1, HAK, HsK1, HO⟩
  iapply (wp_finish vM vB 1 c (dS 1 1) (2 * t.val + 1) (vs m c) (OR c) (insert (SemLoc.dma (dS 1 0), ()) (insert (SemLoc.dma (dS 0 1), ()) (insert (SemLoc.dma (dS 0 0), ()) W)))) $$ [HV HO]
  · isplitl [HV]; · iexact HV
    isplitl [HO]; · iexact HO
    iapply (mayWait_dS c 1 1); iexact Hlev
  iintro ⟨HSV1, HAV, HsV1, HO⟩
  ihave HFK0 := (slot_free kB 0 c _) $$ HSK0
  ihave HFV0 := (slot_free vB 0 c _) $$ HSV0
  by_cases h7 : t.val < 7
  · have hc : k0_cond1 t = 1#1 := (cond1_iff t).mpr h7
    rw [dif_pos hc]
    simp only [Prog.bind_op, Prog.bind_ret]
    iapply (wp_start kM kB 0 c (dS 0 0) (k0_off2 t) _ (j := 2 * (t.val + 1)) (by omega) (off2_eq t) (ks m c)) $$ [HAK HFK0 HsK0]
    · isplitl [HAK]; · iexact HAK
      isplitl [HFK0] <;> iassumption
    iintro HK
    iapply (wp_start vM vB 0 c (dS 0 1) (k0_off2 t) _ (j := 2 * (t.val + 1)) (by omega) (off2_eq t) (vs m c)) $$ [HAV HFV0 HsV0]
    · isplitl [HAV]; · iexact HAV
      isplitl [HFV0] <;> iassumption
    iintro HV
    iapply (wp_loadSlot kB 1 c _) $$ HSK1; iintro HSK1
    iapply (wp_loadSlot vB 1 c _) $$ HSV1; iintro HSV1
    iapply (wp_loadSlot kB 1 c _) $$ HSK1; iintro HSK1
    iapply (wp_loadSlot vB 1 c _) $$ HSV1; iintro HSV1
    rw [wp_ret]; imodintro
    ihave HFK1 := (slot_free kB 1 c _) $$ HSK1
    ihave HFV1 := (slot_free vB 1 c _) $$ HSV1
    isplitr
    · ipureintro
      subst ha
      exact hstep
    isplitl [HK HV]
    · rw [if_pos (by omega)]
      isplitl [HK] <;> iassumption
    isplitl [HFK1 HFV1 HsK1 HsV1]
    · isplitl [HFK1]; · iexact HFK1
      isplitl [HFV1]; · iexact HFV1
      isplitl [HsK1] <;> iassumption
    isplitr; · iexact Hlev
    iexists _; iexact HO
  · have hc : ¬ k0_cond1 t = 1#1 := fun h => h7 ((cond1_iff t).mp h)
    rw [dif_neg hc]
    simp only [Prog.bind_op, Prog.bind_ret]
    iapply (wp_loadSlot kB 1 c _) $$ HSK1; iintro HSK1
    iapply (wp_loadSlot vB 1 c _) $$ HSV1; iintro HSV1
    iapply (wp_loadSlot kB 1 c _) $$ HSK1; iintro HSK1
    iapply (wp_loadSlot vB 1 c _) $$ HSV1; iintro HSV1
    rw [wp_ret]; imodintro
    ihave HFK1 := (slot_free kB 1 c _) $$ HSK1
    ihave HFV1 := (slot_free vB 1 c _) $$ HSV1
    isplitr
    · ipureintro
      subst ha
      exact hstep
    isplitl [HAK HAV HFK0 HFV0 HsK0 HsV0]
    · rw [if_neg (by omega)]
      unfold Arrs
      isplitl [HAK HAV]
      · isplitl [HAK] <;> iassumption
      isplitl [HFK0]; · iexact HFK0
      isplitl [HFV0]; · iexact HFV0
      isplitl [HsK0] <;> iassumption
    isplitl [HFK1 HFV1 HsK1 HsV1]
    · isplitl [HFK1]; · iexact HFK1
      isplitl [HFV1]; · iexact HFV1
      isplitl [HsK1] <;> iassumption
    isplitr; · iexact Hlev
    iexists _; iexact HO

end Trip

end Cert.RunProof

end
-- ==== Proof.Exchange.lean ====
/-
# One round of the exchange

The four steps of a round as rules, at a symbolic device and round: the send slot filled, the transfer to the partner
started, the two waits, the receive slot read.
-/
module

public import proofs.«01_k».proof.Proof.Loop

@[expose] public section

noncomputable section

namespace Cert.RunProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The cells by number -/

abbrev kS (s : Fin 3) : Fin 7 := ⟨1 + s.val, by omega⟩
abbrev kR (s : Fin 3) : Fin 7 := ⟨4 + s.val, by omega⟩

section Round

variable (K : Dev nD × Fin 7 → ℕ) (s : Fin 3) (c : Dev nD)

theorem access_set (r : Rect S3x1024x129) : (sendW.access r).setOn Finset.univ = r.set :=
  (View.setOn_univ _).trans (View.set_slice_whole _ _)
theorem load_set (b : Ref sig .tc) (r : Rect b.ty.shape) : (Memref.whole b).view.setOn r.toLoadRect.set = r.set :=
  Finset.map_refl

/-- Both stores done, the slot reads as what was stored. -/
theorem filled (f : (cc0_scratch3 : Ref sig .tc).ty.Contents (Elt F)) (wO : Vec F S1x1024x128 .bf16) (wL : Vec F S1x1024x1 .bf16) :
    sendW.view.readAt (Elt F) (rO s).toLoadRect ((sendW.access (rL s)).write (Elt F) ((sendW.access (rO s)).write (Elt F) f wO Finset.univ) wL Finset.univ) = wO
    ∧ sendW.view.readAt (Elt F) (rL s).toLoadRect ((sendW.access (rL s)).write (Elt F) ((sendW.access (rO s)).write (Elt F) f wO Finset.univ) wL Finset.univ) = wL := by
  refine ⟨(View.readAt_rect _ _).trans ((View.read_slice_write_slice_of_disjoint (v := sendW.view) (rO s) (rL s) _ _ _ ?_).trans (View.read_write_univ _ _)),
    (View.readAt_rect _ _).trans (View.read_write_univ _ _)⟩
  show Disjoint (sendW.access (rO s)).set ((sendW.access (rL s)).setOn Finset.univ)
  have h : (sendW.access (rO s)).set = (rO s).set := View.set_slice_whole _ _
  rw [h, access_set]
  exact rO_rL s

set_option maxHeartbeats 800000 in
/-- The send slot filled. -/
theorem wp_fill (wO : Vec F S1x1024x128 .bf16) (wL : Vec F S1x1024x1 .bf16) {h1 h2 h2' h3 h4 h4'}
    {α : Type} {Q : α → sProp 𝕄} {k : PUnit → Prog (TpuEff nD τ sig (Elt F) Λ₀ .tc) α} :
    (sendPay s c : sProp 𝕄)
      ⊢ iprop((iprop(∃ f, sendPts s c f ∗ ⌜sendW.view.readAt (Elt F) (rO s).toLoadRect f = wO ∧ sendW.view.readAt (Elt F) (rL s).toLoadRect f = wL⌝)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.load sendW (rO s).toLoadRect h1) fun _ => .op (.store sendW (rO s) wO Finset.univ h2 h2') fun _ =>
                .op (.load sendW (rL s).toLoadRect h3) fun _ => .op (.store sendW (rL s) wL Finset.univ h4 h4') k) Q) := by
  unfold sendPay sendPts
  iintro ⟨%f, H⟩ Hk
  iapply (wp_load 𝒱₀ (c : Thread nD τ) none Set.univ (m := sendW) (by rw [load_set, send_set]; exact rO_sub s)) $$ H; iintro H
  iapply (wp_store 𝒱₀ (c : Thread nD τ) none Set.univ (m := sendW) (r := rO s) (Mk := Finset.univ) (by rw [access_set, send_set]; exact rO_sub s)) $$ H; iintro H
  iapply (wp_load 𝒱₀ (c : Thread nD τ) none Set.univ (m := sendW) (by rw [load_set, send_set]; exact rL_sub s)) $$ H; iintro H
  iapply (wp_store 𝒱₀ (c : Thread nD τ) none Set.univ (m := sendW) (r := rL s) (Mk := Finset.univ) (by rw [access_set, send_set]; exact rL_sub s)) $$ H; iintro H
  iapply Hk
  iexists _
  isplitl [H]; · iexact H
  ipureintro
  exact filled s f wO wL

set_option maxHeartbeats 800000 in
/-- The transfer to the partner started: its credit is paid when it lands, what lands is what was sent. -/
theorem wp_xfer (n : Dev nD) (hn : n = peer s c) (O : CellTallies nD τ sig Unit) (W : Waits sig Unit)
    {hsc : (recvM s : Memref sig (Dev.tc n : Thread nD τ).2.kind .vmem S1024x129 .bf16).view.ref.isScScratch = false}
    {hsrc : (sendM s).view.WordExact} {hdst : (recvM s).view.WordExact}
    {hsem : DmaTarget.Typed .vmem (.dma (recvS s)) (.remote (Dev.tc n : Thread nD τ) (recvM s) (.dma (sendS s)) hsc)}
    {α : Type} {Q : α → sProp 𝕄} {k : PUnit → Prog (TpuEff nD τ sig (Elt F) Λ₀ .tc) α} :
    iprop(cellInv ER (ringRd m) (K (c, kS s)) (sendCell s c) ∗ cellInv ER (ringRd m) (K (peer s c, kR s)) (recvCell s (peer s c))
        ∗ (∃ f, sendPts s c f ∗ ⌜Put m s c f⌝) ∗ (∃ f, recvPts s (peer s c) f)
        ∗ owes (c : Thread nD τ) (O + tR s c) W
        ∗ dutyTok ER (sendCell s c) 0 0 ∗ reached ER (sendCell s c) 0
        ∗ dutyTok ER (recvCell s (peer s c)) 0 0 ∗ reached ER (recvCell s (peer s c)) 0)
      ⊢ iprop(((cred (tallyAt (sendCell s c) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (sendM s) (.remote (Dev.tc n : Thread nD τ) (recvM s) (.dma (sendS s)) hsc) (.dma (recvS s)) hsrc hdst hsem) k) Q) := by
  subst hn
  iintro ⟨Hi, Hi', ⟨%fs, Hs, %hs⟩, ⟨%fd, Hd⟩, Hr⟩
  unfold sendPts recvPts
  iapply (Rounds.wp_send_pointsTo 𝒱₀ ER (ringRd m) (c : Thread nD τ) none (κ₁ := K (c, kS s)) (κ₂ := K (peer s c, kR s))
    (r₁ := 0) (r₂ := 0) (d₁ := 0) (d₂ := 0) (fd := fd) (fs := fs) (q := fullShare)
    (by rw [duties_send]; exact Finset.mem_singleton_self _) (by rw [duties_recv]; exact Finset.mem_singleton_self _)
    () () N rfl (amount_send m c s 0) (amount_recv m (peer s c) s 0) O rfl (W := W)
    (by rw [payload_send]; unfold sendPay sendPts; iintro H; iexists fs; iexact H)
    (by
      rw [payload_recv]; unfold recvPay recvPts; iintro H; iexists _
      isplitl [H]; · iexact H
      ipureintro; exact xfer_got m s c fd fs hs))
  isplitl [Hi]; · iexact Hi
  isplitl [Hi']; · iexact Hi'
  isplitl [Hs]; · iexact Hs
  isplitl [Hd]; · iexact Hd
  iexact Hr

set_option maxHeartbeats 800000 in
/-- The wait on the send semaphore: the send slot is free again. -/
theorem wp_waitSend (O : CellTallies nD τ sig Unit) (W : Waits sig Unit)
    {s' : Shape} {e' : EltTy} {sp' : Space} {srcw : Memref sig .tc sp' s' e'}
    {hsrc : srcw.view.WordExact} {hdst : (sendM s).view.WordExact} {α : Type} {Q : α → sProp 𝕄} {k : PUnit → Prog (TpuEff nD τ sig (Elt F) Λ₀ .tc) α} :
    iprop(cellInv ER (ringRd m) (K (c, kS s)) (sendCell s c) ∗ cred (tallyAt (sendCell s c) () N) ∗ owes (c : Thread nD τ) O W
        ∗ MayWait (c : Thread nD τ) (.dma (sendS s)) () O ∗ atPos ER (sendCell s c) 0 ∅ 0)
      ⊢ iprop((iprop(sendPay s c ∗ semVal (sendCell s c) 0 ∗ ∃ W, owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sendS s) srcw (sendM s) hsrc hdst) k) Q) := by
  iintro ⟨#Hi, Hc, HO, Hw, Hat⟩ Hk
  iapply (Rounds.wp_wait_rest_token 𝒱₀ ER (ringRd m) (c : Thread nD τ) none (κ := K (c, kS s))
      (wpE_waitDma2_eq 𝒱₀ (c : Thread nD τ) none Set.univ) (Set.mem_univ _) () (O := O) (W := W) (R := 0) (m := 0) (T := ∅)
      (by rw [Nat.zero_add]; exact (expect_send m c s).symm)) $$ [Hc HO Hw Hat]
  · isplitr; · iexact Hi
    isplitl [Hc]; · iexact Hc
    isplitl [HO]; · iexact HO
    isplitl [Hw] <;> iassumption
  iintro ⟨HO, Hat, -, Hpay⟩
  ihave Hp := (Entails.of_eq (rest_send m c s)) $$ Hpay
  imod (Rounds.cell_close ER (ringRd m) (Set.mem_univ (K (c, kS s))) (fun h => h) (R := 0 + 1) (duties_later m (sendCell s c))) $$ [Hat] with Hz
  · isplitr; · iexact Hi
    iexact Hat
  iapply Hk
  isplitl [Hp]; · iexact Hp
  isplitl [Hz]; · iexact Hz
  iexists _; iexact HO

set_option maxHeartbeats 800000 in
/-- The wait on the receive semaphore: the receive slot holds what the partner sent. -/
theorem wp_waitRecv (O : CellTallies nD τ sig Unit) (W : Waits sig Unit)
    {s' : Shape} {e' : EltTy} {sp' : Space} {srcw : Memref sig .tc sp' s' e'}
    {hsrc : srcw.view.WordExact} {hdst : (recvM s).view.WordExact} {α : Type} {Q : α → sProp 𝕄} {k : PUnit → Prog (TpuEff nD τ sig (Elt F) Λ₀ .tc) α} :
    iprop(cellInv ER (ringRd m) (K (c, kR s)) (recvCell s c) ∗ cred (tallyAt (recvCell s c) () N) ∗ owes (c : Thread nD τ) O W
        ∗ MayWait (c : Thread nD τ) (.dma (recvS s)) () O ∗ atPos ER (recvCell s c) 0 ∅ 0)
      ⊢ iprop((iprop(recvPay m s c ∗ semVal (recvCell s c) 0 ∗ ∃ W, owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (recvS s) srcw (recvM s) hsrc hdst) k) Q) := by
  iintro ⟨#Hi, Hc, HO, Hw, Hat⟩ Hk
  iapply (Rounds.wp_wait_rest_token 𝒱₀ ER (ringRd m) (c : Thread nD τ) none (κ := K (c, kR s))
      (wpE_waitDma2_eq 𝒱₀ (c : Thread nD τ) none Set.univ) (Set.mem_univ _) () (O := O) (W := W) (R := 0) (m := 0) (T := ∅)
      (by rw [Nat.zero_add]; exact (expect_recv m c s).symm)) $$ [Hc HO Hw Hat]
  · isplitr; · iexact Hi
    isplitl [Hc]; · iexact Hc
    isplitl [HO]; · iexact HO
    isplitl [Hw] <;> iassumption
  iintro ⟨HO, Hat, -, Hpay⟩
  ihave Hp := (Entails.of_eq (rest_recv m c s)) $$ Hpay
  imod (Rounds.cell_close ER (ringRd m) (Set.mem_univ (K (c, kR s))) (fun h => h) (R := 0 + 1) (duties_later m (recvCell s c))) $$ [Hat] with Hz
  · isplitr; · iexact Hi
    iexact Hat
  iapply Hk
  isplitl [Hp]; · iexact Hp
  isplitl [Hz]; · iexact Hz
  iexists _; iexact HO

set_option maxHeartbeats 800000 in
/-- The receive slot read: what the partner sent. -/
theorem wp_take {h1 h2} {α : Type} {Q : α → sProp 𝕄} {k : Vec F S1x1024x128 .bf16 → Vec F S1x1024x1 .bf16 → Prog (TpuEff nD τ sig (Elt F) Λ₀ .tc) α} :
    (recvPay m s c : sProp 𝕄)
      ⊢ iprop((recvPay m s c -∗ wp frame (wpE (defs₀ (F := F)) 𝒱₀ (c : Thread nD τ) none) Set.univ (k (po m s (peer s c)) (pl m s (peer s c))) Q)
          -∗ wp frame (wpE (defs₀ (F := F)) 𝒱₀ (c : Thread nD τ) none) Set.univ
              (.op (.load recvW (rO s).toLoadRect h1) fun a => .op (.load recvW (rL s).toLoadRect h2) (k a)) Q) := by
  unfold recvPay recvPts
  iintro ⟨%f, H, %hf⟩ Hk
  iapply (wp_load 𝒱₀ (c : Thread nD τ) none Set.univ (m := recvW) (by rw [load_set, recv_set]; exact rO_sub s)) $$ H; iintro H
  rw [hf.1]
  iapply (wp_load 𝒱₀ (c : Thread nD τ) none Set.univ (m := recvW) (by rw [load_set, recv_set]; exact rL_sub s)) $$ H; iintro H
  rw [hf.2]
  iapply Hk
  iexists f
  isplitl [H]; · iexact H
  ipureintro; exact hf

end Round

end Cert.RunProof

end
-- ==== Proof.Body.lean ====
/-
# The body

The whole kernel on a symbolic device, one rule per step in program order: the barrier, the chunk loop, the three rounds,
the store of the result.
-/
module

public import proofs.«01_k».proof.Proof.Exchange

@[expose] public section

noncomputable section

namespace Cert.RunProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Buffers of slots, whole and slot by slot -/

theorem bufs_disj (s s' : Fin 2) (h : s ≠ s') : Disjoint (rB s).set (rB s').set := Finset.disjoint_left.mpr fun i hi hi' => by
  rw [Rect.mem_set_unit] at hi hi'
  have h1 := hi 0; have h2 := hi' 0
  simp at h1 h2
  exact h (Fin.ext (by omega))
theorem bufs_cover : Finset.univ.biUnion (fun s : Fin 2 => (rB s).set) = Finset.univ := Finset.eq_univ_iff_forall.mpr fun i => by
  rw [Finset.mem_biUnion]
  refine ⟨i 0, Finset.mem_univ _, Rect.mem_set_unit.mpr fun a => ?_⟩
  have h := (i a).isLt
  fin_cases a <;> simp at h ⊢ <;> omega
theorem slots_disj (s s' : Fin 3) (h : s ≠ s') : Disjoint (rSlot s).set (rSlot s').set := Finset.disjoint_left.mpr fun i hi hi' => by
  rw [Rect.mem_set_unit] at hi hi'
  have h1 := hi 0; have h2 := hi' 0
  simp at h1 h2
  exact h (Fin.ext (by omega))
theorem slots_cover : Finset.univ.biUnion (fun s : Fin 3 => (rSlot s).set) = Finset.univ := Finset.eq_univ_iff_forall.mpr fun i => by
  rw [Finset.mem_biUnion]
  refine ⟨i 0, Finset.mem_univ _, Rect.mem_set_unit.mpr fun a => ?_⟩
  have h := (i a).isLt
  fin_cases a <;> simp at h ⊢ <;> omega

theorem bigSep_fin2 (Φ : Fin 2 → sProp 𝕄) : bigSep Finset.univ Φ = iprop(Φ 0 ∗ Φ 1) :=
  bigSep_univ_eq_bigSepL [0, 1] (by decide) (by decide) Φ

theorem kB_set (s : Fin 2) : (dstM kB s).view.set = (rB s).set := (View.set_reshape _ _).trans (View.set_slice_whole _ _)
theorem vB_set (s : Fin 2) : (dstM vB s).view.set = (rB s).set := (View.set_reshape _ _).trans (View.set_slice_whole _ _)

theorem free_kB (s : Fin 2) (c : Dev nD) : (Free kB s c : sProp 𝕄) = iprop(∃ f, ((c : Thread nD τ).loc cc0_scratch0) ↦[(rB s).set]{fullShare} f) := by
  unfold Free; rw [kB_set]
theorem free_vB (s : Fin 2) (c : Dev nD) : (Free vB s c : sProp 𝕄) = iprop(∃ f, ((c : Thread nD τ).loc cc0_scratch1) ↦[(rB s).set]{fullShare} f) := by
  unfold Free; rw [vB_set]
theorem free_send (s : Fin 3) (c : Dev nD) : (sendPay s c : sProp 𝕄) = iprop(∃ f, ((c : Thread nD τ).loc cc0_scratch3) ↦[(rSlot s).set]{fullShare} f) := by
  unfold sendPay sendPts; rw [send_set]
/-- A receive slot at any contents. -/
def recvFree (s : Fin 3) (c : Dev nD) : sProp 𝕄 := iprop(∃ f, recvPts s c f)
theorem free_recv (s : Fin 3) (c : Dev nD) : (recvFree s c : sProp 𝕄) = iprop(∃ f, ((c : Thread nD τ).loc cc0_scratch4) ↦[(rSlot s).set]{fullShare} f) := by
  unfold recvFree recvPts; rw [recv_set]
theorem recvPay_free (s : Fin 3) (c : Dev nD) : (recvPay m s c : sProp 𝕄) ⊢ recvFree s c := by
  unfold recvPay recvFree; iintro ⟨%f, H, -⟩; iexists f; iexact H

section Whole
variable (c : Dev nD)

theorem kB_split (f) : (((c : Thread nD τ).loc cc0_scratch0) ↦{fullShare} f : sProp 𝕄) ⊢ iprop(Free kB 0 c ∗ Free kB 1 c) := by
  rw [Ring.pointsTo_blocks (fun s : Fin 2 => (rB s).set) bufs_disj bufs_cover f, bigSep_fin2, free_kB, free_kB]
  iintro ⟨H0, H1⟩
  isplitl [H0]; · iexists f; iexact H0
  iexists f; iexact H1
theorem vB_split (f) : (((c : Thread nD τ).loc cc0_scratch1) ↦{fullShare} f : sProp 𝕄) ⊢ iprop(Free vB 0 c ∗ Free vB 1 c) := by
  rw [Ring.pointsTo_blocks (fun s : Fin 2 => (rB s).set) bufs_disj bufs_cover f, bigSep_fin2, free_vB, free_vB]
  iintro ⟨H0, H1⟩
  isplitl [H0]; · iexists f; iexact H0
  iexists f; iexact H1
theorem send_split (f) : (((c : Thread nD τ).loc cc0_scratch3) ↦{fullShare} f : sProp 𝕄) ⊢ iprop(sendPay 0 c ∗ sendPay 1 c ∗ sendPay 2 c) := by
  rw [Ring.pointsTo_blocks (fun s : Fin 3 => (rSlot s).set) slots_disj slots_cover f, bigSep_fin3, free_send, free_send, free_send]
  iintro ⟨H0, H1, H2⟩
  isplitl [H0]; · iexists f; iexact H0
  isplitl [H1]; · iexists f; iexact H1
  iexists f; iexact H2
theorem recv_split (f) : (((c : Thread nD τ).loc cc0_scratch4) ↦{fullShare} f : sProp 𝕄) ⊢ iprop(recvFree 0 c ∗ recvFree 1 c ∗ recvFree 2 c) := by
  rw [Ring.pointsTo_blocks (fun s : Fin 3 => (rSlot s).set) slots_disj slots_cover f, bigSep_fin3, free_recv, free_recv, free_recv]
  iintro ⟨H0, H1, H2⟩
  isplitl [H0]; · iexists f; iexact H0
  isplitl [H1]; · iexists f; iexact H1
  iexists f; iexact H2

theorem kB_join : iprop(Free kB 0 c ∗ Free kB 1 c) ⊢ (iprop(∃ f : Buf (Elt F) ((c : Thread nD τ).loc cc0_scratch0), ((c : Thread nD τ).loc cc0_scratch0) ↦{fullShare} f) : sProp 𝕄) := by
  rw [free_kB, free_kB]
  iintro ⟨⟨%f, H0⟩, H1⟩
  iapply (Ring.pointsTo_blocks_join_exists (fun s : Fin 2 => (rB s).set) bufs_disj bufs_cover f)
  iapply (Entails.of_eq (bigSep_fin2 _).symm)
  isplitl [H0]; · iexists f; iexact H0
  iexact H1
theorem vB_join : iprop(Free vB 0 c ∗ Free vB 1 c) ⊢ (iprop(∃ f : Buf (Elt F) ((c : Thread nD τ).loc cc0_scratch1), ((c : Thread nD τ).loc cc0_scratch1) ↦{fullShare} f) : sProp 𝕄) := by
  rw [free_vB, free_vB]
  iintro ⟨⟨%f, H0⟩, H1⟩
  iapply (Ring.pointsTo_blocks_join_exists (fun s : Fin 2 => (rB s).set) bufs_disj bufs_cover f)
  iapply (Entails.of_eq (bigSep_fin2 _).symm)
  isplitl [H0]; · iexists f; iexact H0
  iexact H1
theorem send_join : iprop(sendPay 0 c ∗ sendPay 1 c ∗ sendPay 2 c) ⊢ (iprop(∃ f : Buf (Elt F) ((c : Thread nD τ).loc cc0_scratch3), ((c : Thread nD τ).loc cc0_scratch3) ↦{fullShare} f) : sProp 𝕄) := by
  rw [free_send, free_send, free_send]
  iintro ⟨⟨%f, H0⟩, H1, H2⟩
  iapply (Ring.pointsTo_blocks_join_exists (fun s : Fin 3 => (rSlot s).set) slots_disj slots_cover f)
  iapply (Entails.of_eq (bigSep_fin3 _).symm)
  isplitl [H0]; · iexists f; iexact H0
  isplitl [H1] <;> iassumption
theorem recv_join : iprop(recvFree 0 c ∗ recvFree 1 c ∗ recvFree 2 c) ⊢ (iprop(∃ f : Buf (Elt F) ((c : Thread nD τ).loc cc0_scratch4), ((c : Thread nD τ).loc cc0_scratch4) ↦{fullShare} f) : sProp 𝕄) := by
  rw [free_recv, free_recv, free_recv]
  iintro ⟨⟨%f, H0⟩, H1, H2⟩
  iapply (Ring.pointsTo_blocks_join_exists (fun s : Fin 3 => (rSlot s).set) slots_disj slots_cover f)
  iapply (Entails.of_eq (bigSep_fin3 _).symm)
  isplitl [H0]; · iexists f; iexact H0
  isplitl [H1] <;> iassumption

theorem arr_k : (Arr kM c (ks m c) : sProp 𝕄) = (((c : Thread nD τ).loc main_arg3) ↦{fullShare} m ((c : Thread nD τ).loc main_arg3)) := by
  unfold Arr; rw [show kM.view.set = Finset.univ from View.set_whole _]; rfl
theorem arr_v : (Arr vM c (vs m c) : sProp 𝕄) = (((c : Thread nD τ).loc main_arg4) ↦{fullShare} m ((c : Thread nD τ).loc main_arg4)) := by
  unfold Arr; rw [show vM.view.set = Finset.univ from View.set_whole _]; rfl

end Whole

/-! ## What a device holds of the exchange -/

section Ghost
variable (K : Dev nD × Fin 7 → ℕ) (c : Dev nD)

/-- The invariants of the cells round `s` touches; what each has reached; the positions and the duties device `c` pays. -/
def invsR (s : Fin 3) : sProp 𝕄 :=
  iprop(cellInv ER (ringRd m) (K (c, kS s)) (sendCell s c) ∗ cellInv ER (ringRd m) (K (c, kR s)) (recvCell s c)
    ∗ cellInv ER (ringRd m) (K (peer s c, 0)) (barCell (peer s c)) ∗ cellInv ER (ringRd m) (K (peer s c, kR s)) (recvCell s (peer s c)))
def recsR (s : Fin 3) : sProp 𝕄 :=
  iprop(reached ER (sendCell s c) 0 ∗ reached ER (recvCell s c) 0 ∗ reached ER (barCell (peer s c)) 0)
def linR (s : Fin 3) : sProp 𝕄 :=
  iprop(atPos ER (sendCell s c) 0 ∅ 0 ∗ atPos ER (recvCell s c) 0 ∅ 0
    ∗ dutyTok ER (barCell (peer s c)) 0 s ∗ dutyTok ER (sendCell s c) 0 0 ∗ dutyTok ER (recvCell s (peer s c)) 0 0)

instance : BI.Persistent (invsR (F := F) m K c s) := by unfold invsR; infer_instance
instance : BI.Persistent (recsR (F := F) c s) := by unfold recsR; infer_instance

/-- The semaphores of the local transfers, at zero. -/
def locs : sProp 𝕄 :=
  iprop((semVal ((c : Thread nD τ), SemLoc.dma (dS 0 0)) 0 ∗ semVal ((c : Thread nD τ), SemLoc.dma (dS 0 1)) 0)
    ∗ semVal ((c : Thread nD τ), SemLoc.dma (dS 1 0)) 0 ∗ semVal ((c : Thread nD τ), SemLoc.dma (dS 1 1)) 0)

def ghost : sProp 𝕄 :=
  iprop(cellInv ER (ringRd m) (K (c, 0)) (barCell c) ∗ (invsR m K c 0 ∗ invsR m K c 1 ∗ invsR m K c 2)
    ∗ (recsR c 0 ∗ recsR c 1 ∗ recsR c 2) ∗ atPos ER (barCell c) 0 ∅ 0 ∗ (linR c 0 ∗ linR c 1 ∗ linR c 2))

def start : sProp 𝕄 :=
  iprop((∃ K, ghost m K c) ∗ locs c ∗ cred (tallyAt (barCell c) () 3)
    ∗ (cred (tallyAt (recvCell 0 c) () N) ∗ cred (tallyAt (recvCell 1 c) () N) ∗ cred (tallyAt (recvCell 2 c) () N))
    ∗ levAts L lv ∗ Arrs m c)

/-- The four buffers of the kernel, slot by slot. -/
def bufs : sProp 𝕄 :=
  iprop((Free kB 0 c ∗ Free kB 1 c) ∗ (Free vB 0 c ∗ Free vB 1 c) ∗ (sendPay 0 c ∗ sendPay 1 c ∗ sendPay 2 c)
    ∗ (recvFree 0 c ∗ recvFree 1 c ∗ recvFree 2 c))

def Φ₀ : sProp 𝕄 := iprop(start m c ∗ bufs c)
/-- After the point: the arrays, the buffers, every cell closed. -/
def Φ₁ : sProp 𝕄 :=
  iprop(Arrs m c ∗ bufs c ∗ locs c ∗ semVal (barCell c) 0 ∗ (semVal (sendCell 0 c) 0 ∗ semVal (sendCell 1 c) 0 ∗ semVal (sendCell 2 c) 0)
    ∗ (semVal (recvCell 0 c) 0 ∗ semVal (recvCell 1 c) 0 ∗ semVal (recvCell 2 c) 0))

end Ghost

def dats (_ : Fin 1) (c : Dev nD) : Dat τ (Elt F) Unit ℕ UU ℕ cfg0 c where
  A w := m ((cfg0.win w).arr.view.loc (c : Thread nD τ))
  after w _ := match w with
    | ⟨0, _⟩ => xs m c
    | ⟨1, _⟩ => wqs m c
    | ⟨2, _⟩ => wos m c
    | ⟨3, _⟩ => outs m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body on a symbolic device -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem hz3 : (![0, 0, 0] : Fin 3 → Nat) = fun _ => 0 := funext fun a => by fin_cases a <;> rfl
theorem hz2 : (![0, 0] : Fin 2 → Nat) = fun _ => 0 := funext fun a => by fin_cases a <;> rfl
abbrev r3 : Rect S1x128x1024 := Rect.unit (s := S1x128x1024) ![0, 0, 0] S1x128x1024.size inb_S1x128x1024_S1x128x1024_0_0_0
abbrev r2 : Rect S1024x1024 := Rect.unit (s := S1024x1024) ![0, 0] S1024x1024.size inb_S1024x1024_S1024x1024_0_0
theorem read_stg0 (f : (cc0_stg0_0 : Ref sig .tc).ty.Contents (Elt F)) : (Memref.whole cc0_stg0_0 : Memref sig .tc .vmem S1x128x1024 .f32).view.readAt (Elt F) r3.toLoadRect f = f :=
  Memref.readAt_unit_zero (Elt F) cc0_stg0_0 hz3 _ f
theorem read_stg1 (f : (cc0_stg1_0 : Ref sig .tc).ty.Contents (Elt F)) : (Memref.whole cc0_stg1_0 : Memref sig .tc .vmem S1024x1024 .f32).view.readAt (Elt F) r2.toLoadRect f = f :=
  Memref.readAt_unit_zero (Elt F) cc0_stg1_0 hz2 _ f
theorem read_stg2 (f : (cc0_stg2_0 : Ref sig .tc).ty.Contents (Elt F)) : (Memref.whole cc0_stg2_0 : Memref sig .tc .vmem S1024x1024 .f32).view.readAt (Elt F) r2.toLoadRect f = f :=
  Memref.readAt_unit_zero (Elt F) cc0_stg2_0 hz2 _ f
theorem write_stg3 (f w : (cc0_stg3_0 : Ref sig .tc).ty.Contents (Elt F)) :
    ((Memref.whole cc0_stg3_0 : Memref sig .tc .vmem S1x128x1024 .f32).access r3 : View sig .tc _ _ _).write (Elt F) f w Finset.univ = w :=
  Memref.write_access_unit_zero_univ (Elt F) cc0_stg3_0 hz3 _ f w

theorem low_send (s : Fin 3) (n : ℕ) : lvR (role (.dma (sendS s))) ≤ n := by rw [role_snd]; exact Nat.zero_le n
theorem low_recv (s : Fin 3) {n : ℕ} (h : 2 + s.val ≤ n) : lvR (role (.dma (recvS s))) ≤ n := by rw [role_rcv]; exact h

section Body
variable (K : Dev nD × Fin 7 → ℕ) (c : Dev nD)

def bodyPre (W : Waits sig Unit) (g3 : Buf (Elt F) ((c : Thread nD τ).loc cc0_stg3_0)) : sProp 𝕄 :=
  iprop((ghost m K c ∗ locs c ∗ cred (tallyAt (barCell c) () 3)
    ∗ (cred (tallyAt (recvCell 0 c) () N) ∗ cred (tallyAt (recvCell 1 c) () N) ∗ cred (tallyAt (recvCell 2 c) () N))
    ∗ levAts L lv ∗ Arrs m c) ∗ bufs c
    ∗ owes (c : Thread nD τ) (O₀ c) W
    ∗ (((c : Thread nD τ).loc cc0_stg0_0) ↦{fullShare} xs m c) ∗ (((c : Thread nD τ).loc cc0_stg1_0) ↦{fullShare} wqs m c)
    ∗ (((c : Thread nD τ).loc cc0_stg2_0) ↦{fullShare} wos m c) ∗ (((c : Thread nD τ).loc cc0_stg3_0) ↦{fullShare} g3))

def bodyPost : sProp 𝕄 :=
  iprop(Φ₁ m c ∗ (∃ W, owes (c : Thread nD τ) 0 W)
    ∗ (((c : Thread nD τ).loc cc0_stg0_0) ↦{fullShare} xs m c) ∗ (((c : Thread nD τ).loc cc0_stg1_0) ↦{fullShare} wqs m c)
    ∗ (((c : Thread nD τ).loc cc0_stg2_0) ↦{fullShare} wos m c) ∗ (((c : Thread nD τ).loc cc0_stg3_0) ↦{fullShare} outs m c))

abbrev theBody : Prog (TpuEff nD τ sig (Elt F) Λ₀ .tc) PUnit :=
  cc0_body (F := F) (Memref.whole cc0_stg0_0) (Memref.isWhole_whole _) (Memref.whole cc0_stg1_0) (Memref.isWhole_whole _)
    (Memref.whole cc0_stg2_0) (Memref.isWhole_whole _) (Memref.whole main_arg3) (Memref.isWhole_whole _) (Memref.whole main_arg4) (Memref.isWhole_whole _)
    (Memref.whole cc0_stg3_0) (Memref.isWhole_whole _) (Memref.whole cc0_scratch0) (Memref.isWhole_whole _) (Memref.whole cc0_scratch1) (Memref.isWhole_whole _)
    cc0_scratch2 (Memref.whole cc0_scratch3) (Memref.isWhole_whole _) (Memref.whole cc0_scratch4) (Memref.isWhole_whole _) cc0_scratch5 cc0_scratch6

set_option maxHeartbeats 6400000 in
set_option maxRecDepth 8000 in
theorem sound_body (W : Waits sig Unit) (g3 : Buf (Elt F) ((c : Thread nD τ).loc cc0_stg3_0)) (Kt : PUnit → sProp 𝕄) :
    iprop(bodyPre m K c W g3 ∗ (bodyPost m c -∗ Kt ⟨⟩))
      ⊢ wp frame (wpE (defs₀ (F := F)) 𝒱₀ (c : Thread nD τ) none) Set.univ (theBody (F := F)) Kt := by
  unfold theBody
  simp only [cc0_body_eq_skeleton]; unfold cc0_body_skel
  simp only [k0_part4_eq_skeleton, k0_part5_eq_skeleton, k0_part6_eq_skeleton, k0_part7_eq_skeleton, k0_part8_eq_skeleton, k0_part9_eq_skeleton, k0_part10_eq_skeleton]
  unfold k0_part4_skel k0_part5_skel k0_part6_skel k0_part7_skel k0_part8_skel k0_part9_skel k0_part10_skel
  simp only [semSignalWord, semWaitWord, Prog.lift, Prog.bind_op, Prog.bind_ret, Prog.pure_eq_ret, bind_assoc, wp_deviceId]
  unfold bodyPre ghost locs bufs Arrs invsR recsR linR
  iintro ⟨⟨⟨⟨#HiB, ⟨⟨#HiS0, #HiR0, #HiBN0, #HiRN0⟩, ⟨#HiS1, #HiR1, #HiBN1, #HiRN1⟩, #HiS2, #HiR2, #HiBN2, #HiRN2⟩,
      ⟨⟨#HrS0, #HrR0, #HrB0⟩, ⟨#HrS1, #HrR1, #HrB1⟩, #HrS2, #HrR2, #HrB2⟩, HaB,
      ⟨HaS0, HaR0, HtB0, HtS0, HtR0⟩, ⟨HaS1, HaR1, HtB1, HtS1, HtR1⟩, HaS2, HaR2, HtB2, HtS2, HtR2⟩,
      ⟨⟨HsK0, HsV0⟩, HsK1, HsV1⟩, HcB, ⟨HcR0, HcR1, HcR2⟩, #Hlev, HAK, HAV⟩,
    ⟨⟨HFK0, HFK1⟩, ⟨HFV0, HFV1⟩, ⟨HS0, HS1, HS2⟩, HR0, HR1, HR2⟩, HO, Hx, Hwq, Hwo, Hout⟩, Hk⟩
  simp only [dev1_eq c, dev2_eq c, dev3_eq c]
  unfold O₀
  iapply (Rounds.wp_signal 𝒱₀ ER (ringRd m) (c : Thread nD τ) none (dst := (peer 0 c : Thread nD τ)) (κ := K (peer 0 c, 0))
      (d := 0) (by rw [duties_bar]; exact Finset.mem_univ _) ((amount_bar m (peer 0 c) 0).trans (by decide)) () (OR c + tB 2 c + tB 1 c) rfl)
    $$ [HO HtB0 HR0]
  · isplitr; · iexact HiBN0
    isplitl [HO]; · iexact HO
    isplitl [HtB0]; · iexact HtB0
    isplitl [HR0]
    · rw [payload_bar]; unfold barPay; rw [peer_peer]
      unfold recvFree
      isplitl [HR0]; · iexact HR0
      iexact HrR0
    · iexact HrB0
  iintro HO
  iapply (Rounds.wp_signal 𝒱₀ ER (ringRd m) (c : Thread nD τ) none (dst := (peer 1 c : Thread nD τ)) (κ := K (peer 1 c, 0))
      (d := 1) (by rw [duties_bar]; exact Finset.mem_univ _) ((amount_bar m (peer 1 c) 1).trans (by decide)) () (OR c + tB 2 c) rfl)
    $$ [HO HtB1 HR1]
  · isplitr; · iexact HiBN1
    isplitl [HO]; · iexact HO
    isplitl [HtB1]; · iexact HtB1
    isplitl [HR1]
    · rw [payload_bar]; unfold barPay; rw [peer_peer]
      unfold recvFree
      isplitl [HR1]; · iexact HR1
      iexact HrR1
    · iexact HrB1
  iintro HO
  iapply (Rounds.wp_signal 𝒱₀ ER (ringRd m) (c : Thread nD τ) none (dst := (peer 2 c : Thread nD τ)) (κ := K (peer 2 c, 0))
      (d := 2) (by rw [duties_bar]; exact Finset.mem_univ _) ((amount_bar m (peer 2 c) 2).trans (by decide)) () (OR c) rfl)
    $$ [HO HtB2 HR2]
  · isplitr; · iexact HiBN2
    isplitl [HO]; · iexact HO
    isplitl [HtB2]; · iexact HtB2
    isplitl [HR2]
    · rw [payload_bar]; unfold barPay; rw [peer_peer]
      unfold recvFree
      isplitl [HR2]; · iexact HR2
      iexact HrR2
    · iexact HrB2
  iintro HO
  iapply (Rounds.wp_wait_rest_token 𝒱₀ ER (ringRd m) (c : Thread nD τ) none (κ := K (c, 0))
      (wpE_semWait_eq 𝒱₀ (c : Thread nD τ) none Set.univ) (Set.mem_univ _) () (O := OR c) (W := W) (R := 0) (m := 0) (T := ∅)
      (by rw [expect_bar]; decide)) $$ [HcB HO HaB]
  · isplitr; · iexact HiB
    isplitl [HcB]; · iexact HcB
    isplitl [HO]; · iexact HO
    isplitr; · iapply (mayWait_bar c _ (by rw [role_bar]; decide)); iexact Hlev
    iexact HaB
  iintro ⟨HO, HaB, -, Hpay⟩
  ihave Hp := (Entails.of_eq (rest_bar m c)) $$ Hpay
  unfold barPay
  icases Hp with ⟨⟨HN0, #HrRN0⟩, ⟨HN1, #HrRN1⟩, ⟨HN2, #HrRN2⟩⟩
  imod (Rounds.cell_close ER (ringRd m) (Set.mem_univ (K (c, 0))) (fun h => h) (R := 0 + 1) (duties_later m (barCell c))) $$ [HaB] with HzB
  · isplitr; · iexact HiB
    iexact HaB
  iapply (wp_load 𝒱₀ (c : Thread nD τ) none Set.univ (m := Memref.whole cc0_stg0_0) (Finset.subset_univ _)) $$ Hx; iintro Hx
  rw [read_stg0]
  iapply (wp_load 𝒱₀ (c : Thread nD τ) none Set.univ (m := Memref.whole cc0_stg1_0) (Finset.subset_univ _)) $$ Hwq; iintro Hwq
  rw [read_stg1]
  -- the chunk loop
  iapply (wp_start kM kB 0 c (dS 0 0) ![0, 0, 0, 0] _ (j := 0) (by decide) rfl (ks m c)) $$ [HAK HFK0 HsK0]
  · isplitl [HAK]; · iexact HAK
    isplitl [HFK0] <;> iassumption
  iintro HK
  iapply (wp_start vM vB 0 c (dS 0 1) ![0, 0, 0, 0] _ (j := 0) (by decide) rfl (vs m c)) $$ [HAV HFV0 HsV0]
  · isplitl [HAV]; · iexact HAV
    isplitl [HFV0] <;> iassumption
  iintro HV
  iapply (Scf.wp_for_bind _ _ _ _ _ _ _ _ _ (loopInv m c (qGrp0 (xs m c) (wqs m c)) (qGrp1 (xs m c) (wqs m c)))
      (fun t a => wp_trip m c (qGrp0 (xs m c) (wqs m c)) (qGrp1 (xs m c) (wqs m c)) _ _ _ _ _ t a)) $$ [HK HV HFK1 HFV1 HsK1 HsV1 HO]
  · unfold loopInv Flying Idle
    isplitr; · ipureintro; rfl
    isplitl [HK HV]
    · rw [if_pos (by decide)]
      isplitl [HK] <;> iassumption
    isplitl [HFK1 HFV1 HsK1 HsV1]
    · isplitl [HFK1]; · iexact HFK1
      isplitl [HFV1]; · iexact HFV1
      isplitl [HsK1] <;> iassumption
    isplitr; · iexact Hlev
    iexists _; iexact HO
  iintro %acc Hinv
  unfold loopInv
  rw [show Scf.trips _ _ _ = 8 from trips_eq, if_neg (by decide)]
  icases Hinv with ⟨%hacc, ⟨HA, HI0⟩, HI1, -, ⟨%W', HO⟩⟩
  obtain ⟨a1, a2, a3, a4⟩ := acc
  have h1 : a1 = (accs m c).1 := congrArg (fun a => a.1) hacc
  have h2 : a2 = (accs m c).2.1 := congrArg (fun a => a.2.1) hacc
  have h3 : a3 = (accs m c).2.2.1 := congrArg (fun a => a.2.2.1) hacc
  have h4 : a4 = (accs m c).2.2.2 := congrArg (fun a => a.2.2.2) hacc
  subst h1 h2 h3 h4
  unfold OR
  -- round 0
  iapply (wp_fill 0 c (po m 0 c) (pl m 0 c)) $$ HS0; iintro HS0
  iapply (wp_xfer m K 0 c _ (dev4_eq c) (tR 2 c + tR 1 c) _) $$ [HS0 HN0 HO HtS0 HtR0]
  · isplitr; · iexact HiS0
    isplitr; · iexact HiRN0
    isplitl [HS0]; · iexact HS0
    isplitl [HN0]; · iexact HN0
    isplitl [HO]; · iexact HO
    isplitl [HtS0]; · iexact HtS0
    isplitr; · iexact HrS0
    isplitl [HtR0]; · iexact HtR0
    iexact HrRN0
  iintro ⟨HcS0, HO⟩
  iapply (wp_waitSend m K 0 c (tR 2 c + tR 1 c) _) $$ [HcS0 HO HaS0]
  · isplitr; · iexact HiS0
    isplitl [HcS0]; · iexact HcS0
    isplitl [HO]; · iexact HO
    isplitr; · iapply (mayWait_one c _ (low_send 0 _)); iexact Hlev
    iexact HaS0
  iintro ⟨HS0, HzS0, %WS0, HO⟩
  iapply (wp_waitRecv m K 0 c (tR 2 c + tR 1 c) _) $$ [HcR0 HO HaR0]
  · isplitr; · iexact HiR0
    isplitl [HcR0]; · iexact HcR0
    isplitl [HO]; · iexact HO
    isplitr; · iapply (mayWait_one c _ (low_recv 0 (by decide))); iexact Hlev
    iexact HaR0
  iintro ⟨HV0, HzR0, %WR0, HO⟩
  iapply (wp_take m 0 c) $$ HV0; iintro HV0
  -- round 1
  iapply (wp_fill 1 c (po m 1 c) (pl m 1 c)) $$ HS1; iintro HS1
  iapply (wp_xfer m K 1 c _ (dev5_eq c) (tR 2 c) _) $$ [HS1 HN1 HO HtS1 HtR1]
  · isplitr; · iexact HiS1
    isplitr; · iexact HiRN1
    isplitl [HS1]; · iexact HS1
    isplitl [HN1]; · iexact HN1
    isplitl [HO]; · iexact HO
    isplitl [HtS1]; · iexact HtS1
    isplitr; · iexact HrS1
    isplitl [HtR1]; · iexact HtR1
    iexact HrRN1
  iintro ⟨HcS1, HO⟩
  iapply (wp_waitSend m K 1 c (tR 2 c) _) $$ [HcS1 HO HaS1]
  · isplitr; · iexact HiS1
    isplitl [HcS1]; · iexact HcS1
    isplitl [HO]; · iexact HO
    isplitr; · iapply (mayWait_two c _ (low_send 1 _)); iexact Hlev
    iexact HaS1
  iintro ⟨HS1, HzS1, %WS1, HO⟩
  iapply (wp_waitRecv m K 1 c (tR 2 c) _) $$ [HcR1 HO HaR1]
  · isplitr; · iexact HiR1
    isplitl [HcR1]; · iexact HcR1
    isplitl [HO]; · iexact HO
    isplitr; · iapply (mayWait_two c _ (low_recv 1 (by decide))); iexact Hlev
    iexact HaR1
  iintro ⟨HV1, HzR1, %WR1, HO⟩
  iapply (wp_take m 1 c) $$ HV1; iintro HV1
  -- round 2
  iapply (wp_fill 2 c (po m 2 c) (pl m 2 c)) $$ HS2; iintro HS2
  iapply (wp_xfer m K 2 c _ (dev6_eq c) (0) _) $$ [HS2 HN2 HO HtS2 HtR2]
  · isplitr; · iexact HiS2
    isplitr; · iexact HiRN2
    isplitl [HS2]; · iexact HS2
    isplitl [HN2]; · iexact HN2
    isplitl [HO]; · rw [zero_add]; iexact HO
    isplitl [HtS2]; · iexact HtS2
    isplitr; · iexact HrS2
    isplitl [HtR2]; · iexact HtR2
    iexact HrRN2
  iintro ⟨HcS2, HO⟩
  iapply (wp_waitSend m K 2 c (0) _) $$ [HcS2 HO HaS2]
  · isplitr; · iexact HiS2
    isplitl [HcS2]; · iexact HcS2
    isplitl [HO]; · iexact HO
    isplitr; · rw [MayWait_zero]; iempintro
    iexact HaS2
  iintro ⟨HS2, HzS2, %WS2, HO⟩
  iapply (wp_waitRecv m K 2 c (0) _) $$ [HcR2 HO HaR2]
  · isplitr; · iexact HiR2
    isplitl [HcR2]; · iexact HcR2
    isplitl [HO]; · iexact HO
    isplitr; · rw [MayWait_zero]; iempintro
    iexact HaR2
  iintro ⟨HV2, HzR2, %WR2, HO⟩
  iapply (wp_take m 2 c) $$ HV2; iintro HV2
  iapply (wp_load 𝒱₀ (c : Thread nD τ) none Set.univ (m := Memref.whole cc0_stg2_0) (Finset.subset_univ _)) $$ Hwo; iintro Hwo
  rw [read_stg2]
  iapply (wp_load 𝒱₀ (c : Thread nD τ) none Set.univ (m := Memref.whole cc0_stg3_0) (Finset.subset_univ _)) $$ Hout; iintro Hout
  iapply (wp_store 𝒱₀ (c : Thread nD τ) none Set.univ (m := Memref.whole cc0_stg3_0) (r := r3) (Mk := Finset.univ) (Finset.subset_univ _)) $$ Hout; iintro Hout
  rw [write_stg3, wp_ret]; imodintro
  iapply Hk
  unfold bodyPost Φ₁ bufs locs Idle
  icases HI0 with ⟨HFK0, HFV0, HsK0, HsV0⟩
  icases HI1 with ⟨HFK1, HFV1, HsK1, HsV1⟩
  ihave HV0 := (recvPay_free m 0 c) $$ HV0
  ihave HV1 := (recvPay_free m 1 c) $$ HV1
  ihave HV2 := (recvPay_free m 2 c) $$ HV2
  isplitr [HO Hx Hwq Hwo Hout]
  · isplitl [HA]; · iexact HA
    isplitl [HFK0 HFK1 HFV0 HFV1 HS0 HS1 HS2 HV0 HV1 HV2]
    · isplitl [HFK0 HFK1]
      · isplitl [HFK0] <;> iassumption
      isplitl [HFV0 HFV1]
      · isplitl [HFV0] <;> iassumption
      isplitl [HS0 HS1 HS2]
      · isplitl [HS0]; · iexact HS0
        isplitl [HS1] <;> iassumption
      isplitl [HV0]; · iexact HV0
      isplitl [HV1] <;> iassumption
    isplitl [HsK0 HsV0 HsK1 HsV1]
    · isplitl [HsK0 HsV0]
      · isplitl [HsK0] <;> iassumption
      isplitl [HsK1] <;> iassumption
    isplitl [HzB]; · iexact HzB
    isplitl [HzS0 HzS1 HzS2]
    · isplitl [HzS0]; · iexact HzS0
      isplitl [HzS1] <;> iassumption
    isplitl [HzR0]; · iexact HzR0
    isplitl [HzR1] <;> iassumption
  isplitl [HO]; · iexists _; iexact HO
  isplitl [Hx]; · iexact Hx
  isplitl [Hwq]; · iexact Hwq
  isplitl [Hwo]; · iexact Hwo
  iexact Hout

end Body

end Cert.RunProof

end
-- ==== Proof.Launch.lean ====
/-
# The launch

The body's obligation, what the launch deals each device (invariants, positions, duty tokens, credits) and the run itself:
on eight devices every weakly fair execution ends, with the result array at its computed contents, the arguments unchanged
and every semaphore counter at zero.
-/
module

public import proofs.«01_k».proof.Proof.Body
public import Idealize.ShloMosaic.Lib.Pipeline.CollectiveSegs

@[expose] public section

noncomputable section

namespace Cert.RunProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body obligation -/

set_option maxRecDepth 4000 in
def bodyPre' (c : Dev nD) : sProp 𝕄 :=
  iprop(Φ₀ m c ∗ (dats m 0 c).owesAt () (t0_0).castSucc
    ∗ (∃ d, stg c cc0_stg0_0 ((dats m 0 c).before (0 : Fin 4) t0_0 d)) ∗ (∃ d, stg c cc0_stg1_0 ((dats m 0 c).before (1 : Fin 4) t0_0 d))
    ∗ (∃ d, stg c cc0_stg2_0 ((dats m 0 c).before (2 : Fin 4) t0_0 d)) ∗ (∃ d, stg c cc0_stg3_0 ((dats m 0 c).before (3 : Fin 4) t0_0 d)))

set_option maxRecDepth 4000 in
def bodyPost' (c : Dev nD) : sProp 𝕄 :=
  iprop(Φ₁ m c ∗ (dats m 0 c).owesAt () (t0_0).succ
    ∗ stg c cc0_stg0_0 (xs m c) ∗ stg c cc0_stg1_0 (wqs m c) ∗ stg c cc0_stg2_0 (wos m c) ∗ stg c cc0_stg3_0 (outs m c))

set_option maxRecDepth 4000 in
theorem body_obligation (c : Dev nD) : BodyObligation (dats (F := F) m 0 c) (defs₀ (F := F)) 𝒱₀ () Set.univ := fun t => by
  rw [fin_N0 t]
  rw [bigSep_W0, bigSep_W0]
  simp only [owns_whole_eq]
  show bodyPre' m c ⊢ wp frame (wpE (defs₀ (F := F)) 𝒱₀ (c : Thread nD τ) none) Set.univ (theBody (F := F)) (fun _ => bodyPost' m c)
  unfold bodyPre' Φ₀ start
  iintro ⟨⟨⟨⟨%K, Hg⟩, Hrest⟩, Hb⟩, Ho, ⟨%d0, %f0, %h0, H0⟩, ⟨%d1, %f1, %h1, H1⟩, ⟨%d2, %f2, %h2, H2⟩, ⟨%d3, %f3, %h3, H3⟩⟩
  have e0 : f0 = xs m c := by rw [h0]; unfold Dat.before; rw [if_pos (fetch0_0 t0_0)]; rfl
  have e1 : f1 = wqs m c := by rw [h1]; unfold Dat.before; rw [if_pos (fetch0_1 t0_0)]; rfl
  have e2 : f2 = wos m c := by rw [h2]; unfold Dat.before; rw [if_pos (fetch0_2 t0_0)]; rfl
  subst e0; subst e1; subst e2
  unfold Dat.owesAt Pipeline.owesWithin
  icases Ho with ⟨%W, %hW, HO⟩
  rw [show (dats m 0 c).owed t0_0.castSucc = O₀ c from rfl]
  iapply (sound_body m K c W f3 fun _ => bodyPost' m c)
  unfold bodyPre
  isplitr []
  · isplitl [Hg Hrest]
    · isplitl [Hg]; · iexact Hg
      iexact Hrest
    isplitl [Hb]; · iexact Hb
    isplitl [HO]; · iexact HO
    isplitl [H0]; · iexact H0
    isplitl [H1]; · iexact H1
    isplitl [H2]; · iexact H2
    iexact H3
  · unfold bodyPost bodyPost' Dat.owesAt Pipeline.owesWithin
    rw [show (dats m 0 c).owed t0_0.succ = 0 from rfl]
    iintro ⟨HΦ, ⟨%W', HO⟩, G0, G1, G2, G3⟩
    isplitl [HΦ]; · iexact HΦ
    isplitl [HO]
    · iexists W'
      isplitr; · ipureintro; exact fun _ _ => Or.inl trivial
      iexact HO
    isplitl [G0]
    · iexists _; isplitr; · (ipureintro; rfl)
      iexact G0
    isplitl [G1]
    · iexists _; isplitr; · (ipureintro; rfl)
      iexact G1
    isplitl [G2]
    · iexists _; isplitr; · (ipureintro; rfl)
      iexact G2
    iexists _; isplitr; · (ipureintro; rfl)
    iexact G3

/-! ## The cells and the tokens -/

/-- The kernel's own semaphores: the local transfers', the sends', the receives'. -/
abbrev osem : Fin 10 → SemLoc sig := ![.dma (dS 0 0), .dma (dS 0 1), .dma (dS 1 0), .dma (dS 1 1),
  .dma (sendS 0), .dma (sendS 1), .dma (sendS 2), .dma (recvS 0), .dma (recvS 1), .dma (recvS 2)]
/-- The exchange's: the barrier's, the sends', the receives'. -/
abbrev csem : Fin 7 → SemLoc sig := ![.reg barS, .dma (sendS 0), .dma (sendS 1), .dma (sendS 2), .dma (recvS 0), .dma (recvS 1), .dma (recvS 2)]
abbrev kcell (ck : Dev nD × Fin 7) : GSem nD τ sig := ((ck.1 : Thread nD τ), csem ck.2)

theorem ownSemFacts : Pipeline.OwnSemFacts cfg0.spec osem := by decide

theorem share_eq (c : Dev nD) (w : Fin cfg0.W) : (dats m 0 c).share w = fullShare := by unfold Dat.share; split <;> rfl

theorem csem_injective : Function.Injective csem := by decide +kernel
theorem kcell_injective : Function.Injective (kcell : Dev nD × Fin 7 → GSem nD τ sig) := by
  rintro ⟨c, k⟩ ⟨c', k'⟩ h
  have h1 : c = c' := congrArg (fun g : GSem nD τ sig => g.1.1) h
  have h2 : k = k' := csem_injective (congrArg Prod.snd h)
  rw [h1, h2]
def ringCells : Finset (GSem nD τ sig) := Finset.univ.map ⟨kcell, kcell_injective⟩

/-- A device's own cells' duties: the barrier's of round `s`, the send's and the receive's. -/
abbrev tokSem : Fin 9 → SemLoc sig := ![.reg barS, .reg barS, .reg barS,
  .dma (sendS 0), .dma (sendS 1), .dma (sendS 2), .dma (recvS 0), .dma (recvS 1), .dma (recvS 2)]
abbrev tokDuty : Fin 9 → Fin 3 := ![0, 1, 2, 0, 0, 0, 0, 0, 0]
abbrev tokOf (cj : Dev nD × Fin 9) : GSem nD τ sig × ℕ × Fin 3 := (((cj.1 : Thread nD τ), tokSem cj.2), 0, tokDuty cj.2)
theorem tok_injective : Function.Injective (fun j => (tokSem j, tokDuty j)) := by decide +kernel
theorem tokOf_injective : Function.Injective (tokOf : Dev nD × Fin 9 → GSem nD τ sig × ℕ × Fin 3) := by
  rintro ⟨c, j⟩ ⟨c', j'⟩ h
  have h1 : c = c' := congrArg (fun x : GSem nD τ sig × ℕ × Fin 3 => x.1.1.1) h
  have h2 : j = j' := tok_injective (Prod.ext (congrArg (fun x : GSem nD τ sig × ℕ × Fin 3 => x.1.2) h) (congrArg (fun x : GSem nD τ sig × ℕ × Fin 3 => x.2.2) h))
  rw [h1, h2]
def ringToks : Finset (GSem nD τ sig × ℕ × Fin 3) := Finset.univ.map ⟨tokOf, tokOf_injective⟩

def u₀ : UU :=
  (initOf (Pipeline.cells cfgs cellOf_inj) (Pipeline.launchToks cfgs cellOf_inj), (initOf ringCells ringToks, 1))

/-- The duty tokens of device `c`'s own cells. -/
def toks (c : Dev nD) : sProp 𝕄 :=
  iprop(dutyTok ER (barCell c) 0 0 ∗ dutyTok ER (barCell c) 0 1 ∗ dutyTok ER (barCell c) 0 2
    ∗ dutyTok ER (sendCell 0 c) 0 0 ∗ dutyTok ER (sendCell 1 c) 0 0 ∗ dutyTok ER (sendCell 2 c) 0 0
    ∗ dutyTok ER (recvCell 0 c) 0 0 ∗ dutyTok ER (recvCell 1 c) 0 0 ∗ dutyTok ER (recvCell 2 c) 0 0)
/-- The tokens of the duties device `c` pays. -/
def payToks (c : Dev nD) : sProp 𝕄 :=
  iprop(dutyTok ER (barCell (peer 0 c)) 0 0 ∗ dutyTok ER (barCell (peer 1 c)) 0 1 ∗ dutyTok ER (barCell (peer 2 c)) 0 2
    ∗ dutyTok ER (sendCell 0 c) 0 0 ∗ dutyTok ER (sendCell 1 c) 0 0 ∗ dutyTok ER (sendCell 2 c) 0 0
    ∗ dutyTok ER (recvCell 0 (peer 0 c)) 0 0 ∗ dutyTok ER (recvCell 1 (peer 1 c)) 0 0 ∗ dutyTok ER (recvCell 2 (peer 2 c)) 0 0)

/-- What the launch element deals device `c`. -/
def G (c : Dev nD) : sProp 𝕄 :=
  iprop((bigSep Finset.univ fun k : Fin 7 => roundState ER (ringRd m) (kcell (c, k)) 0)
    ∗ (bigSep Finset.univ fun k : Fin 7 => iprop(atPos ER (kcell (c, k)) 0 ∅ 0 ∗ reached ER (kcell (c, k)) 0)) ∗ toks c)
/-- What the global step makes of it. -/
def G' (c : Dev nD) : sProp 𝕄 := iprop((∃ K, ghost m K c) ∗ locs c)

theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
theorem bigSep_fin9 (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 7 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_fin9]; rfl
  iintro HX
  imod (Rounds.fund ER (ringRd m) ringCells ringToks) $$ HX with ⟨Hst, Hr, Hat, Htok⟩
  imodintro
  ihave Hst' := (Entails.of_eq (hX fun g => roundState ER (ringRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores and the invariants -/

theorem ownSems0_eq (c : Dev nD) : (Pipeline.ownSems0 (Ix := Unit) (Name := ℕ) (U := UU) (Lvl := ℕ) (Val := Elt F) (τ := τ) osem c : sProp 𝕄)
    = iprop(semVal ((c : Thread nD τ), SemLoc.dma (dS 0 0)) 0 ∗ semVal ((c : Thread nD τ), SemLoc.dma (dS 0 1)) 0
      ∗ semVal ((c : Thread nD τ), SemLoc.dma (dS 1 0)) 0 ∗ semVal ((c : Thread nD τ), SemLoc.dma (dS 1 1)) 0
      ∗ semVal (sendCell 0 c) 0 ∗ semVal (sendCell 1 c) 0 ∗ semVal (sendCell 2 c) 0
      ∗ semVal (recvCell 0 c) 0 ∗ semVal (recvCell 1 c) 0 ∗ semVal (recvCell 2 c) 0) := by
  rw [Pipeline.ownSems0_eq_of_list c osem [0, 1, 2, 3, 4, 5, 6, 7, 8, 9] (by decide) (by decide)]; rfl
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (iprop((bigSep Finset.univ fun k : Fin 7 => semVal (kcell (c, k)) 0) ∗ locs c) : sProp 𝕄) := by
  rw [ownSems0_eq, unscopedSems0_eq, bigSep_fin7]
  unfold locs
  iintro ⟨⟨H0, H1, H2, H3, S0, S1, S2, R0, R1, R2⟩, HB⟩
  isplitl [HB S0 S1 S2 R0 R1 R2]
  · isplitl [HB]; · iexact HB
    isplitl [S0]; · iexact S0
    isplitl [S1]; · iexact S1
    isplitl [S2]; · iexact S2
    isplitl [R0]; · iexact R0
    isplitl [R1]; · iexact R1
    iexact R2
  isplitl [H0 H1]; · isplitl [H0] <;> iassumption
  isplitl [H2] <;> iassumption

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (ringRd m) κ (kcell (c, k))))
          ∗ (bigSep Finset.univ fun k => iprop(atPos ER (kcell (c, k)) 0 ∅ 0 ∗ reached ER (kcell (c, k)) 0)) ∗ toks c ∗ locs c) := by
  unfold G
  iintro ⟨Hos, Hus, Hst, Hat, Htok⟩
  ihave Hv := (sems0_eq (F := F) c) $$ [Hos Hus]
  · isplitl [Hos] <;> iassumption
  icases Hv with ⟨Hv, Hl⟩
  imod (show iprop((bigSep Finset.univ fun k : Fin 7 => semVal (kcell (c, k)) 0) ∗ bigSep Finset.univ fun k : Fin 7 => roundState ER (ringRd m) (kcell (c, k)) 0)
      ⊢ (|={Set.univ}=> bigSep Finset.univ fun k => iprop(∃ κ : ℕ, cellInv ER (ringRd m) κ (kcell (c, k))) : sProp 𝕄) from by
        rw [← bigSep_sep']
        exact (bigSep_mono fun k _ => (Rounds.body_intro ER (ringRd m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok] <;> iassumption

/-- Every cell's invariant, and that every cell is at its first round. -/
def records (K : Dev nD × Fin 7 → ℕ) : sProp 𝕄 :=
  iprop((bigSep Finset.univ fun ck : Dev nD × Fin 7 => cellInv ER (ringRd m) (K ck) (kcell ck))
    ∗ bigSep Finset.univ fun ck : Dev nD × Fin 7 => reached ER (kcell ck) 0)

instance records_persistent (K : Dev nD × Fin 7 → ℕ) : BI.Persistent (records m K) := by unfold records; infer_instance

theorem inv_at (K : Dev nD × Fin 7 → ℕ) (ck : Dev nD × Fin 7) : records m K ⊢ cellInv ER (ringRd m) (K ck) (kcell ck) := by
  unfold records; exact sep_elim_left.trans (bigSep_elim (Finset.mem_univ ck))
theorem reached_at (K : Dev nD × Fin 7 → ℕ) (ck : Dev nD × Fin 7) : records m K ⊢ reached ER (kcell ck) 0 := by
  unfold records; exact sep_elim_right.trans (bigSep_elim (Finset.mem_univ ck))

theorem invsR_intro (K : Dev nD × Fin 7 → ℕ) (c : Dev nD) (s : Fin 3) : records m K ⊢ invsR m K c s := by
  unfold invsR
  have hS : sendCell s c = kcell (c, kS s) := by revert s; intro s; fin_cases s <;> rfl
  have hR (d : Dev nD) : recvCell s d = kcell (d, kR s) := by fin_cases s <;> rfl
  rw [hS, hR, hR]
  iintro #H
  isplitr; · iapply (inv_at m K _); iexact H
  isplitr; · iapply (inv_at m K _); iexact H
  isplitr; · iapply (inv_at m K (peer s c, 0)); iexact H
  iapply (inv_at m K _); iexact H
theorem recsR_intro (K : Dev nD × Fin 7 → ℕ) (c : Dev nD) (s : Fin 3) : records m K ⊢ recsR c s := by
  unfold recsR
  have hS : sendCell s c = kcell (c, kS s) := by fin_cases s <;> rfl
  have hR : recvCell s c = kcell (c, kR s) := by fin_cases s <;> rfl
  rw [hS, hR]
  iintro #H
  isplitr; · iapply (reached_at m K _); iexact H
  isplitr; · iapply (reached_at m K _); iexact H
  iapply (reached_at m K (peer s c, 0)); iexact H

/-- What stays with device `c`: its positions, the duties it pays, the local transfers' semaphores. -/
def linear (c : Dev nD) : sProp 𝕄 :=
  iprop((bigSep Finset.univ fun k : Fin 7 => atPos ER (kcell (c, k)) 0 ∅ 0) ∗ payToks c ∗ locs c)

theorem ghost_intro (K : Dev nD × Fin 7 → ℕ) (c : Dev nD) : iprop(records m K ∗ linear c) ⊢ G' m c := by
  unfold linear payToks G' ghost linR
  rw [bigSep_fin7]
  iintro ⟨#H, ⟨PB, PS0, PS1, PS2, PR0, PR1, PR2⟩, ⟨B0, B1, B2, S0, S1, S2, R0, R1, R2⟩, Hl⟩
  isplitr [Hl]
  · iexists K
    isplitr; · iapply (inv_at m K (c, 0)); iexact H
    isplitr
    · isplitr; · iapply (invsR_intro m K c 0); iexact H
      isplitr; · iapply (invsR_intro m K c 1); iexact H
      iapply (invsR_intro m K c 2); iexact H
    isplitr
    · isplitr; · iapply (recsR_intro m K c 0); iexact H
      isplitr; · iapply (recsR_intro m K c 1); iexact H
      iapply (recsR_intro m K c 2); iexact H
    isplitl [PB]; · iexact PB
    isplitl [PS0 PR0 B0 S0 R0]
    · isplitl [PS0]; · iexact PS0
      isplitl [PR0]; · iexact PR0
      isplitl [B0]; · iexact B0
      isplitl [S0] <;> iassumption
    isplitl [PS1 PR1 B1 S1 R1]
    · isplitl [PS1]; · iexact PS1
      isplitl [PR1]; · iexact PR1
      isplitl [B1]; · iexact B1
      isplitl [S1] <;> iassumption
    isplitl [PS2]; · iexact PS2
    isplitl [PR2]; · iexact PR2
    isplitl [B2]; · iexact B2
    isplitl [S2] <;> iassumption
  iexact Hl

/-- A barrier's duty `s` and a receive's duty go to the partner of round `s`. -/
theorem toks_around : (bigSep Finset.univ fun c : Dev nD => (toks c : sProp 𝕄)) ⊢ bigSep Finset.univ fun c : Dev nD => payToks c := by
  have e (s : Fin 3) (Φ : Dev nD → sProp 𝕄) : bigSep Finset.univ Φ = bigSep Finset.univ fun c => Φ (peer s c) := bigSep_univ_equiv (peerE s) Φ
  unfold toks payToks
  simp only [bigSep_sep']
  rw [e 0 (fun c : Dev nD => (dutyTok ER (barCell c) 0 0 : sProp 𝕄)), e 1 (fun c : Dev nD => (dutyTok ER (barCell c) 0 1 : sProp 𝕄)),
    e 2 (fun c : Dev nD => (dutyTok ER (barCell c) 0 2 : sProp 𝕄)), e 0 (fun c : Dev nD => (dutyTok ER (recvCell 0 c) 0 0 : sProp 𝕄)),
    e 1 (fun c : Dev nD => (dutyTok ER (recvCell 1 c) 0 0 : sProp 𝕄)), e 2 (fun c : Dev nD => (dutyTok ER (recvCell 2 c) 0 0 : sProp 𝕄))]

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (ringRd m) κ (kcell (c, k))))
          ∗ (bigSep Finset.univ fun k => iprop(atPos ER (kcell (c, k)) 0 ∅ 0 ∗ reached ER (kcell (c, k)) 0)) ∗ toks c ∗ locs c) : sProp 𝕄)
      ⊢ bigSep Finset.univ (G' m) := by
  rw [bigSep_sep', bigSep_sep', bigSep_sep', ← bigSep_univ_prod (fun ck : Dev nD × Fin 7 => iprop(∃ κ : ℕ, cellInv ER (ringRd m) κ (kcell ck))),
    bigSep_congr (s := Finset.univ) (fun (c : Dev nD) _ => bigSep_sep' Finset.univ (fun k : Fin 7 => (atPos ER (kcell (c, k)) 0 ∅ 0 : sProp 𝕄)) (fun k => reached ER (kcell (c, k)) 0)),
    bigSep_sep', ← bigSep_univ_prod (fun ck : Dev nD × Fin 7 => (reached ER (kcell ck) 0 : sProp 𝕄))]
  iintro ⟨HI, ⟨Hat, #HR⟩, Htok, Hl⟩
  ihave HK := (BI.bigSep_exists_pi Finset.univ (fun (ck : Dev nD × Fin 7) (κ : ℕ) => (cellInv ER (ringRd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · unfold linear
    rw [bigSep_sep', bigSep_sep']
    isplitl [Hat]; · iexact Hat
    isplitl [Htk] <;> iassumption

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem cell_eq_iff {sm sm' : SemLoc sig} {a b : Dev nD} :
    Iff ((((a : Thread nD τ), sm) : GSem nD τ sig) = ((b : Thread nD τ), sm')) (a = b ∧ sm = sm') :=
  ⟨fun h => ⟨congrArg (fun g : GSem nD τ sig => g.1.1) h, congrArg Prod.snd h⟩, fun h => by rw [h.1, h.2]⟩

theorem peer_eq_iff (s : Fin 3) {a b : Dev nD} : Iff (a = peer s b) (b = peer s a) :=
  ⟨fun h => by rw [h, peer_peer], fun h => by rw [h, peer_peer]⟩

/-- What one promise to a partner's cell adds to a cell of device `c`. -/
theorem owed_one (s : Fin 3) (sm sm' : SemLoc sig) (n : ℕ) (d c : Dev nD) :
    (tallyAt ((peer s d : Thread nD τ), sm) () n : CellTallies nD τ sig Unit) ((c : Thread nD τ), sm') () = if d = peer s c ∧ sm' = sm then n else 0 := by
  rw [tallyAt_apply]
  refine if_congr ?_ rfl rfl
  rw [cell_eq_iff, peer_eq_iff]
  exact and_iff_left rfl

theorem sum_one (s : Fin 3) (sm sm' : SemLoc sig) (n : ℕ) (c : Dev nD) :
    (∑ d : Dev nD, (tallyAt ((peer s d : Thread nD τ), sm) () n : CellTallies nD τ sig Unit) ((c : Thread nD τ), sm') ()) = if sm' = sm then n else 0 := by
  rw [Finset.sum_congr rfl fun d _ => owed_one s sm sm' n d c]
  by_cases h : sm' = sm
  · simp [h]
  · simp [h]

theorem launch_at (c : Dev nD) (sm : SemLoc sig) (n : ℕ)
    (h : (if sm = .dma (recvS 2) then N else 0) + (if sm = .dma (recvS 1) then N else 0) + (if sm = .dma (recvS 0) then N else 0)
      + (if sm = .reg barS then 1 else 0) + (if sm = .reg barS then 1 else 0) + (if sm = .reg barS then 1 else 0) = n) :
    tallyOn ((c : Thread nD τ), sm) (launchCredit (Pipeline.owing O₀) 0 ((c : Thread nD τ), sm)) = (tallyAt ((c : Thread nD τ), sm) () n : CellTallies nD τ sig Unit) := by
  unfold tallyAt; refine congrArg _ (Finsupp.ext fun u => ?_); cases u
  rw [Pipeline.launchCredit_owing, Finsupp.single_eq_same]
  unfold O₀ OR
  simp only [Pi.add_apply, Finsupp.add_apply, Finset.sum_add_distrib, sum_one]
  exact h

theorem creds (c : Dev nD) :
    (Pipeline.launchCred O₀ c : sProp 𝕄) ⊢ iprop(cred (tallyAt (barCell c) () 3)
      ∗ (cred (tallyAt (recvCell 0 c) () N) ∗ cred (tallyAt (recvCell 1 c) () N) ∗ cred (tallyAt (recvCell 2 c) () N))) := by
  have n0 : SemLoc.dma (recvS 0) ≠ SemLoc.reg barS := by decide
  have n1 : SemLoc.dma (recvS 1) ≠ SemLoc.reg barS := by decide
  have n2 : SemLoc.dma (recvS 2) ≠ SemLoc.reg barS := by decide
  have n10 : SemLoc.dma (recvS 1) ≠ SemLoc.dma (recvS 0) := by decide
  have n20 : SemLoc.dma (recvS 2) ≠ SemLoc.dma (recvS 0) := by decide
  have n21 : SemLoc.dma (recvS 2) ≠ SemLoc.dma (recvS 1) := by decide
  rw [← launch_at c (.reg barS) 3 (by rw [if_neg n0.symm, if_neg n1.symm, if_neg n2.symm, if_pos rfl]),
    ← launch_at c (.dma (recvS 0)) N (by rw [if_neg n0, if_neg n10.symm, if_neg n20.symm, if_pos rfl]; simp only [Nat.zero_add, Nat.add_zero]),
    ← launch_at c (.dma (recvS 1)) N (by rw [if_neg n1, if_neg n10, if_neg n21.symm, if_pos rfl]; simp only [Nat.zero_add, Nat.add_zero]),
    ← launch_at c (.dma (recvS 2)) N (by rw [if_neg n2, if_neg n20, if_neg n21, if_pos rfl]; simp only [Nat.zero_add, Nat.add_zero])]
  unfold Pipeline.launchCred
  rw [bigSep_univ_at _ (SemLoc.reg barS)]
  refine sep_mono_right ?_
  rw [show (Finset.univ.erase (SemLoc.reg barS) : Finset (SemLoc sig)) = _ from (Finset.insert_erase (Finset.mem_erase.mpr ⟨n0, Finset.mem_univ _⟩)).symm,
    bigSep_insert (Finset.notMem_erase _ _)]
  refine sep_mono_right ?_
  rw [← Finset.insert_erase (s := (Finset.univ.erase (SemLoc.reg barS)).erase (SemLoc.dma (recvS 0))) (Finset.mem_erase.mpr ⟨n10, Finset.mem_erase.mpr ⟨n1, Finset.mem_univ _⟩⟩),
    bigSep_insert (Finset.notMem_erase _ _)]
  refine sep_mono_right ?_
  exact bigSep_elim (Finset.mem_erase.mpr ⟨n21, Finset.mem_erase.mpr ⟨n20, Finset.mem_erase.mpr ⟨n2, Finset.mem_univ _⟩⟩⟩)

/-! ## The side conditions of the launch -/

/-- The arrays the kernel reads by its own transfers, after the run. -/
def kept (c : Dev nD) : sProp 𝕄 :=
  iprop((((c : Thread nD τ).loc main_arg3) ↦{fullShare} m ((c : Thread nD τ).loc main_arg3)) ∗ (((c : Thread nD τ).loc main_arg4) ↦{fullShare} m ((c : Thread nD τ).loc main_arg4)))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨⟨HK, HV⟩, Hlev, Hcr, -, HG⟩
  ihave Hc := (creds (F := F) c) $$ Hcr
  icases Hc with ⟨H1, HN⟩
  imodintro
  unfold start G' Arrs
  icases HG with ⟨HG, Hl⟩
  isplitl
  · isplitl [HG]; · iexact HG
    isplitl [Hl]; · iexact Hl
    isplitl [H1]; · iexact H1
    isplitl [HN]; · iexact HN
    isplitl [Hlev]; · iexact Hlev
    rw [arr_k, arr_v]
    isplitl [HK] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ bufs
  iintro ⟨Hs, -, ⟨%f0, H0⟩, ⟨%f1, H1⟩, ⟨%f2, H2⟩, ⟨%f3, H3⟩⟩
  isplitl [Hs]; · iexact Hs
  isplitl [H0]; · iapply (kB_split c f0); iexact H0
  isplitl [H1]; · iapply (vB_split c f1); iexact H1
  isplitl [H2]; · iapply (send_split c f2); iexact H2
  iapply (recv_split c f3); iexact H3

theorem phi1_exit (c : Dev nD) :
    (dats m 0 c).Φ (Fin.last cfg0.N) ⊢ iprop((unscopedSems0 c ∗ kept m c) ∗ Pipeline.ownSems0 osem c ∗ Pipeline.scopedRest cfg0.spec c) := by
  rw [show (dats m 0 c).Φ (Fin.last cfg0.N) = Φ₁ m c from rfl, scopedRest0_eq, ownSems0_eq, unscopedSems0_eq]
  unfold Φ₁ bufs Arrs kept locs
  rw [arr_k, arr_v]
  iintro ⟨HA, ⟨HK, HV, HS, HR⟩, ⟨⟨L0, L1⟩, L2, L3⟩, HB, ⟨S0, S1, S2⟩, R0, R1, R2⟩
  isplitl [HB HA]
  · isplitl [HB] <;> iassumption
  isplitl [L0 L1 L2 L3 S0 S1 S2 R0 R1 R2]
  · isplitl [L0]; · iexact L0
    isplitl [L1]; · iexact L1
    isplitl [L2]; · iexact L2
    isplitl [L3]; · iexact L3
    isplitl [S0]; · iexact S0
    isplitl [S1]; · iexact S1
    isplitl [S2]; · iexact S2
    isplitl [R0]; · iexact R0
    isplitl [R1] <;> iassumption
  isplitl [HK]; · iapply (kB_join c); iexact HK
  isplitl [HV]; · iapply (vB_join c); iexact HV
  isplitl [HS]; · iapply (send_join c); iexact HS
  iapply (recv_join c); iexact HR

theorem waits (c : Dev nD) : (levAts L lv : sProp 𝕄) ⊢ Pipeline.cellsWaits cfgs (dats m) () 0 c :=
  Pipeline.cellsWaits_intro cfgs (dats m) () 0 c fun w s t => by
    rcases t with ⟨_ | _, ht⟩
    · exact mayWait_low c _ (by fin_cases w <;> fin_cases s <;> decide)
    · show (levAts L lv : sProp 𝕄) ⊢ MayWait (c : Thread nD τ) _ () 0
      rw [MayWait_zero]; iintro -; iempintro

/-! ## The run -/

/-- The arrays of the pipeline after the run. -/
def finalA (c : Dev nD) (w : Fin cfg0.W) : Buf (Elt F) ((cfg0.win w).arr.view.loc (c : Thread nD τ)) := (dats m 0 c).arrAt w cfg0.N

def QC : PUnit × MemSt nD τ sig (Elt F) → Prop := fun r =>
  (∀ c : Dev nD, (∀ w : Fin cfg0.W, r.2.mem ((cfg0.win w).arr.view.loc (c : Thread nD τ)) = finalA m c w)
    ∧ r.2.mem ((c : Thread nD τ).loc main_arg3) = m ((c : Thread nD τ).loc main_arg3)
    ∧ r.2.mem ((c : Thread nD τ).loc main_arg4) = m ((c : Thread nD τ).loc main_arg4)) ∧ r.2.sem = fun _ => 0

set_option maxRecDepth 8000 in
/-- At the mesh of eight devices, for any float values, from any memory with zero counters: every weakly fair execution of
    the program ends, each device's arrays at the computed contents, its other arguments unchanged, every counter at zero. -/
theorem run_main : θ_run defs (onTc (τ := τ) (main (F := F))) ⟨m, fun _ => 0, ρ⟩ (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      ihave H' := (own_pair_emb embR _ _) $$ HX
      icases H' with ⟨HX, -⟩
      imod (fund_ring m) $$ [HX] with HG
      · iexact HX
      imodintro
      isplitl [HP] <;> iassumption)
    (hglob := glob m)
    (hA := fun _ _ => rfl) (hpf := fun _ k => k.elim0)
    (X := start m) (Y := fun c => iprop(unscopedSems0 c ∗ kept m c)) (Z := fun _ => iprop(emp))
    (hX := start_intro m ρ) (hin := phi0_intro m) (hout := phi1_exit m)
    (QY := fun c s => (s.mem ((c : Thread nD τ).loc main_arg3) = m ((c : Thread nD τ).loc main_arg3)
      ∧ s.mem ((c : Thread nD τ).loc main_arg4) = m ((c : Thread nD τ).loc main_arg4))
      ∧ ∀ sm : SemLoc sig, sm.isScoped .tc = false → s.sem ((c.tc : Thread nD τ), sm) = 0)
    (hY := fun c s' => by
      unfold kept
      iintro ⟨⟨Hu, HK, HV⟩, -, HSI⟩
      icombine HSI HK gives %hk
      icombine HSI HV gives %hv
      imod (Pipeline.unscopedSems0_read (X := unscopedSems0 c) (c := c) fupd_intro s') $$ [Hu HSI] with ⟨%hs, HSI⟩
      · isplitl [Hu] <;> iassumption
      imodintro
      isplitr
      · ipureintro
        exact ⟨⟨Buf.eq_of_forall_mem_univ hk, Buf.eq_of_forall_mem_univ hv⟩, hs⟩
      iexact HSI)
    (hQ := fun _ h hs => ⟨fun c => ⟨(h c).1, (h c).2.2.1⟩, sem_eq_zero hs fun c => (h c).2.2.2⟩)

end Cert.RunProof

end
-- ==== Proof.Frames.lean ====
/-
# The frames and the result of a run

The run of Proof/Launch.lean read at each array: the arguments unchanged, the result array at its computed contents.
-/
module

public import proofs.«01_k».proof.Proof.Launch
public import proofs.«01_k».proof.Proof.Gen.Kernel
public import proofs.«01_k».proof.Defs

@[expose] public section

noncomputable section

namespace Cert.RunProof

open Cert.KernelIdeal Cert.KernelIdeal.Gen
open Idealize.ShloMosaic Idealize.ShloMosaic.TcCoe
open Idealize.SL Idealize.SL.Sem

variable {F : FTy → Type} [FloatOps F]
variable (m : (ℓ : Loc nD τ sig) → Buf (Elt F) ℓ) (ρ : Dev nD → PrngReg)

theorem final_in (c : Dev nD) (w : Fin cfg0.W) (h : (cfg0.win w).isOut = false) :
    finalA m c w = m ((cfg0.win w).arr.view.loc (c : Thread nD τ)) := (dats m 0 c).arrAt_in w h _

/-- A window's one block is its whole array. -/
theorem read_blk0 (f : (main_arg0 : Ref sig .tc).ty.Contents (Elt F)) : (win0_0.blk t0_0).view.read (Elt F) f = f :=
  Memref.read_access_unit_zero (Elt F) main_arg0
    (show (fun a => (win0_0.index t0_0) a * main_arg0.ty.shape.size a) = fun _ => 0 from funext fun a => by fin_cases a <;> decide)
    (fun a => by fin_cases a <;> decide) f
theorem read_blk1 (f : (main_arg1 : Ref sig .tc).ty.Contents (Elt F)) : (win0_1.blk t0_0).view.read (Elt F) f = f :=
  Memref.read_access_unit_zero (Elt F) main_arg1
    (show (fun a => (win0_1.index t0_0) a * main_arg1.ty.shape.size a) = fun _ => 0 from funext fun a => by fin_cases a <;> decide)
    (fun a => by fin_cases a <;> decide) f
theorem read_blk2 (f : (main_arg2 : Ref sig .tc).ty.Contents (Elt F)) : (win0_2.blk t0_0).view.read (Elt F) f = f :=
  Memref.read_access_unit_zero (Elt F) main_arg2
    (show (fun a => (win0_2.index t0_0) a * main_arg2.ty.shape.size a) = fun _ => 0 from funext fun a => by fin_cases a <;> decide)
    (fun a => by fin_cases a <;> decide) f
theorem read_blk3 (f : (main_v1 : Ref sig .tc).ty.Contents (Elt F)) : (win0_3.blk t0_0).view.read (Elt F) f = f :=
  Memref.read_access_unit_zero (Elt F) main_v1
    (show (fun a => (win0_3.index t0_0) a * main_v1.ty.shape.size a) = fun _ => 0 from funext fun a => by fin_cases a <;> decide)
    (fun a => by fin_cases a <;> decide) f

/-- The result array ends at what the body leaves in the stage. -/
theorem final_value (c : Dev nD) : finalA m c (3 : Fin 4) = outs m c := by
  have h : ((cfg0.win 3).blk t0_0).view.read (Elt F) ((dats m 0 c).arrAt 3 cfg0.N) = outs m c := by
    rw [show cfg0.N = t0_0.val + 1 from rfl, (dats m 0 c).arrAt_succ (3 : Fin 4) t0_0, flush0_3, if_pos rfl, View.read_write_univ]
    rfl
  exact (read_blk3 _).symm.trans h

/-- Every run ends with the arguments unchanged and every counter at zero, -/
theorem run_frame : θ_run defs (onTc (τ := τ) (main (F := F))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) ∧ r.2.sem = fun _ => 0) :=
  (θ_run defs _ _).mono (fun _ h => ⟨fun c => ⟨((h.1 c).1 0).trans (final_in m c 0 rfl), ((h.1 c).1 1).trans (final_in m c 1 rfl),
    ((h.1 c).1 2).trans (final_in m c 2 rfl), (h.1 c).2.1, (h.1 c).2.2⟩, h.2⟩) (run_main m ρ)

/-- and with the result array at `outs`. -/
theorem run_value : θ_run defs (onTc (τ := τ) (main (F := F))) ⟨m, fun _ => 0, ρ⟩ (fun r => ∀ c : Dev nD,
      r.2.mem ((c : Thread nD τ).loc main_v1) = outs m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) :=
  (θ_run defs _ _).mono (fun _ h c => ⟨((h.1 c).1 3).trans (final_value m c), ((h.1 c).1 0).trans (final_in m c 0 rfl), ((h.1 c).1 1).trans (final_in m c 1 rfl),
    ((h.1 c).1 2).trans (final_in m c 2 rfl), (h.1 c).2.1, (h.1 c).2.2⟩) (run_main m ρ)

/-- A window over a whole array holds the array. -/
theorem xs_eq (c : Dev nD) : xs m c = m ((c : Thread nD τ).loc main_arg0) := read_blk0 _
theorem wqs_eq (c : Dev nD) : wqs m c = m ((c : Thread nD τ).loc main_arg1) := read_blk1 _
theorem wos_eq (c : Dev nD) : wos m c = m ((c : Thread nD τ).loc main_arg2) := read_blk2 _

/-- `Cert.quiescent_KernelIdeal`. -/
theorem frame_ideal : Cert.quiescent_KernelIdeal := fun m ρ _ => run_frame (F := Ideal) m ρ
/-! ## The other float values: the same program text -/

set_option maxRecDepth 20000 in
theorem kernel_defs₀ : Cert.Kernel.defs₀ (F := F) = Cert.KernelIdeal.defs₀ (F := F) := by
  unfold Cert.Kernel.defs₀ Cert.KernelIdeal.defs₀
  congr 1
  funext p a
  match p, a with
  | 0, (t, s) => exact rfl
set_option maxRecDepth 20000 in
theorem kernel_defs : Cert.Kernel.defs (F := F) = Cert.KernelIdeal.defs (F := F) :=
  congrArg (Pipeline.defs (Cert.KernelIdeal.pcfgs (F := F))) kernel_defs₀

set_option maxRecDepth 20000 in
/-- `Cert.quiescent_Kernel`: the same program text, at the other float values. -/
theorem frame_kernel : Cert.quiescent_Kernel := fun m ρ _ => by
  rw [kernel_defs]
  exact run_frame (F := Bits) m ρ

end Cert.RunProof

end
-- ==== Proof.Reference.lean ====
/-
# The reference's run

Its value and its frame: what the result holds, operation by operation (Proof/Gen/ReferenceIdeal/Run.lean, Read.lean).
-/
module

public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite_KernelIdeal
public import proofs.«01_k».proof.Proof.Gen.Pre_finite_ReferenceIdeal

public import proofs.«01_k».proof.Defs

@[expose] public section

noncomputable section

namespace Cert.RefProof

open Idealize.ShloMosaic Idealize.ShloMosaic.TcCoe Idealize.SL.Sem

/-- `Cert.quiescent_ReferenceIdeal`: the arguments unchanged, and no semaphore to count. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.RefProof

end
-- ==== Proof.Softmax.lean ====
/-
# One row of attention, over the extended reals

A weighted mean is unchanged when every weight is divided by the same positive number: the kernel weighs a value by `exp s`,
the reference by `exp (s - M)` with `M` the row's maximum. The scores are real numbers; the values are any extended reals.
-/
module

public import Idealize.ShloMosaic.PureOps.Ideal
public import Idealize.ShloMosaic.PureOps.Ideal.Laws

@[expose] public section

noncomputable section

namespace Cert.AttnMath

open Idealize.ShloMosaic

/-- A real sum, read in the extended reals. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- A nonnegative real factor goes into a sum of extended reals. -/
theorem coe_mul_sum {ι : Type} {c : ℝ} (hc : 0 ≤ c) (s : Finset ι) (f : ι → EReal) :
    (c : EReal) * ∑ k ∈ s, f k = ∑ k ∈ s, (c : EReal) * f k := by
  classical
  induction s using Finset.induction_on with
  | empty => simp
  | insert a s ha ih =>
    rw [Finset.sum_insert ha, Finset.sum_insert ha, ← ih]
    exact EReal.left_distrib_of_nonneg_of_ne_top (EReal.coe_nonneg.2 hc) (EReal.coe_ne_top c) _ _

/-- The maximum of finitely many real numbers, from minus infinity, is a real number when there is one. -/
theorem fold_max_real {n : ℕ} (hn : 0 < n) (s : Fin n → ℝ) :
    ∃ M : ℝ, (Finset.univ.fold max (⊥ : EReal) fun k => (s k : EReal)) = (M : EReal) := by
  have h1 : (Finset.univ.fold max (⊥ : EReal) fun k => (s k : EReal)) < ⊤ :=
    (Finset.fold_max_lt _).2 ⟨bot_lt_top, fun k _ => EReal.coe_lt_top _⟩
  have h2 : ⊥ < (Finset.univ.fold max (⊥ : EReal) fun k => (s k : EReal)) :=
    (Finset.lt_fold_max _).2 (.inr ⟨⟨0, hn⟩, Finset.mem_univ _, EReal.bot_lt_coe _⟩)
  exact ⟨_, (EReal.coe_toReal h1.ne h2.ne').symm⟩

/-- The kernel's weighted mean is the reference's. -/
theorem softmax_eq {n : ℕ} (hn : 0 < n) (s : Fin n → ℝ) (v : Fin n → EReal) :
    Ideal.div (∑ j, Ideal.exp (s j) * v j) (∑ j, Ideal.exp (s j))
      = Ideal.div (∑ j, v j * Ideal.exp ((s j : EReal) - Finset.univ.fold max (⊥ : EReal) fun k => (s k : EReal)))
          (0 + ∑ j, Ideal.exp ((s j : EReal) - Finset.univ.fold max (⊥ : EReal) fun k => (s k : EReal))) := by
  obtain ⟨M, hM⟩ := fold_max_real hn s
  have hsub (j : Fin n) : (s j : EReal) - (M : EReal) = ((s j - M : ℝ) : EReal) := (EReal.coe_sub _ _).symm
  have hw (j : Fin n) : ((Real.exp (s j - M) : ℝ) : EReal) = (Real.exp (-M) : ℝ) * (Real.exp (s j) : ℝ) := by
    rw [← EReal.coe_mul, ← Real.exp_add, neg_add_eq_sub]
  have hl : (0 : ℝ) < ∑ j, Real.exp (s j) :=
    Finset.sum_pos (fun j _ => Real.exp_pos _) ⟨⟨0, hn⟩, Finset.mem_univ _⟩
  have hc : (0 : ℝ) < Real.exp (-M) := Real.exp_pos _
  rw [hM, zero_add]
  simp only [hsub, Ideal.exp_coe]
  have hnum : ∑ j, v j * ((Real.exp (s j - M) : ℝ) : EReal)
      = (Real.exp (-M) : ℝ) * ∑ j, ((Real.exp (s j) : ℝ) : EReal) * v j := by
    rw [coe_mul_sum hc.le]
    exact Finset.sum_congr rfl fun j _ => by rw [hw, mul_comm (v j), mul_assoc]
  have hden : ∑ j, ((Real.exp (s j - M) : ℝ) : EReal) = ((Real.exp (-M) * ∑ j, Real.exp (s j) : ℝ) : EReal) := by
    rw [EReal.coe_mul, coe_sum, coe_mul_sum hc.le]
    exact Finset.sum_congr rfl fun j _ => hw j
  rw [hnum, hden, ← coe_sum, Ideal.div_coe hl.ne', Ideal.div_coe (mul_pos hc hl).ne', mul_comm (Real.exp (-M) : EReal),
    mul_assoc, ← EReal.coe_mul]
  congr 2
  rw [one_div, one_div, mul_inv, ← mul_assoc, mul_inv_cancel₀ hc.ne', one_mul]

/-- The scale taken out of a real dot product. -/
theorem dot_scale {ι : Type} (s : Finset ι) (q k : ι → ℝ) (c : ℝ) :
    ∑ d ∈ s, ((q d : EReal) * (c : EReal)) * (k d : EReal) = ((((∑ d ∈ s, q d * k d) * c : ℝ)) : EReal) := by
  rw [Finset.sum_mul, coe_sum]
  exact Finset.sum_congr rfl fun d _ => by rw [← EReal.coe_mul, ← EReal.coe_mul]; congr 1; ring

/-! ## Sums cut in consecutive parts -/

/-- Eight consecutive blocks of `n` terms are the first `8 * n` terms. -/
theorem sum_eight_blocks {M : Type} [AddCommMonoid M] (n : ℕ) (f : ℕ → M) :
    ∑ c : Fin 8, ∑ r ∈ Finset.range n, f (c.val * n + r) = ∑ r ∈ Finset.range (8 * n), f r := by
  have h (k : ℕ) : ∑ c ∈ Finset.range k, ∑ r ∈ Finset.range n, f (c * n + r) = ∑ r ∈ Finset.range (k * n), f r := by
    induction k with
    | zero => simp
    | succ k ih => rw [Finset.sum_range_succ, ih, Nat.succ_mul, Finset.sum_range_add]
  rw [← h 8, Finset.sum_range]

end Cert.AttnMath

end
-- ==== Proof.Kernel.lean ====
/-
# What the kernel computes, read at an index

Over the extended reals: the queries, the two accumulators of a device as sums over its rows, the exchange as the sum over
the eight devices, the quotient and the output product.
-/
module

public import proofs.«01_k».proof.Proof.Values
public import proofs.«01_k».proof.Proof.Softmax
public import Idealize.ShloMosaic.Lib.Pointwise

@[expose] public section

noncomputable section

namespace Cert.RunProof

open Cert.KernelIdeal Cert.KernelIdeal.Gen
open Idealize.ShloMosaic Idealize.ShloMosaic.TcCoe

/-! ## The queries -/

/-- The kernel's scale, as printed. -/
def scale : EReal := Ideal.ofBits .f32 0x3DB504F3#32

/-- Column `d` of head `h` among the 1024 columns. -/
def col (h : Fin 8) (d : Fin 128) : Fin 1024 := ⟨128 * h.val + d.val, by omega⟩

/-- The group of heads (the key and value head) of head `h`. -/
def grp (h : Fin 8) : Fin 2 := ⟨h.val / 4, by omega⟩

/-- Query `i` of head `h`, scaled. -/
def qh (x : Vec Ideal S1x128x1024 .f32) (w : Vec Ideal S1024x1024 .f32) (h : Fin 8) (i d : Fin 128) : EReal :=
  (∑ k : Fin 1024, x (ix3 0 i k) * w (ix2 k (col h d))) * scale

/-- Row of query `i` of the `h`-th head of a group. -/
def row4 (h : Fin 4) (i : Fin 128) : Fin 512 := ⟨128 * h.val + i.val, by omega⟩

/-- Row of query `i` of head `h`. -/
def row8 (h : Fin 8) (i : Fin 128) : Fin 1024 := ⟨128 * h.val + i.val, by omega⟩

theorem qGrp0_apply (x : Vec Ideal S1x128x1024 .f32) (w : Vec Ideal S1024x1024 .f32) (r : Fin 512) (d : Fin 128) :
    qGrp0 x w (ix2 r d) = qh x w ⟨r.val / 128, by omega⟩ ⟨r.val % 128, by omega⟩ d := by
  pointwise [qGrp0, k0_pay15, k0_pay10, k0_pay11, k0_pay12, k0_pay13, k0_pay14]
  split_ifs <;>
    exact congrArg (· * scale) (Finset.sum_congr rfl fun k _ => congrArg₂ (· * ·)
      (congrArg (fun t => x (ix3 0 t k)) (Fin.ext (by dsimp only; omega)))
      (congrArg (fun t => w (ix2 k t)) (Fin.ext (by dsimp only [col]; omega))))

theorem qGrp1_apply (x : Vec Ideal S1x128x1024 .f32) (w : Vec Ideal S1024x1024 .f32) (r : Fin 512) (d : Fin 128) :
    qGrp1 x w (ix2 r d) = qh x w ⟨4 + r.val / 128, by omega⟩ ⟨r.val % 128, by omega⟩ d := by
  pointwise [qGrp1, k0_pay16, k0_pay10, k0_pay11]
  split_ifs <;>
    exact congrArg (· * scale) (Finset.sum_congr rfl fun k _ => congrArg₂ (· * ·)
      (congrArg (fun t => x (ix3 0 t k)) (Fin.ext (by dsimp only; omega)))
      (congrArg (fun t => w (ix2 k t)) (Fin.ext (by dsimp only [col]; omega))))

/-! ## One chunk -/

/-- Row `r` of a device's keys or values in group `g`, at column `d`. -/
def at4 (X : Vec Ideal S1x32768x2x128 .f32) (g : Fin 2) (r : ℕ) (d : Fin 128) : EReal :=
  X (ix4 0 ⟨r % 32768, Nat.mod_lt _ (by decide)⟩ g d)

/-- The weight of row `r` for row `p` of a group's queries. -/
def wgt (q : FVec Ideal S512x128 .bf16) (K : Vec Ideal S1x32768x2x128 .f32) (g : Fin 2) (p : Fin 512) (r : ℕ) : EReal :=
  Ideal.exp (∑ d : Fin 128, q (ix2 p d) * at4 K g r d)

theorem chunk_apply (X : Vec Ideal S1x32768x2x128 .f32) (j : ℕ) (r : Fin 2048) (g : Fin 2) (d : Fin 128) :
    chunk X j (ix4 0 r g d) = at4 X g (2048 * j + r.val) d := rfl

variable (q : FVec Ideal S512x128 .bf16) (K V : Vec Ideal S1x32768x2x128 .f32) (j : ℕ) (p : Fin 512) (d : Fin 128)

theorem pay3_apply (a : FVec Ideal S512x1 .f32) :
    k0_pay3 q a (chunk K j) (ix2 p 0) = a (ix2 p 0) + ∑ r ∈ Finset.range 2048, wgt q K 0 p (2048 * j + r) := by
  pointwise [k0_pay3, k0_pay2, chunk_apply]
  rw [Finset.sum_range]; rfl

theorem pay22_apply (a : FVec Ideal S512x1 .f32) :
    k0_pay22 q a (chunk K j) (ix2 p 0) = a (ix2 p 0) + ∑ r ∈ Finset.range 2048, wgt q K 0 p (2048 * j + r) := by
  pointwise [k0_pay22, k0_pay21, chunk_apply]
  rw [Finset.sum_range]; rfl

theorem pay8_apply (a : FVec Ideal S512x1 .f32) :
    k0_pay8 q a (k0_pay5 (chunk K j)) (ix2 p 0) = a (ix2 p 0) + ∑ r ∈ Finset.range 2048, wgt q K 1 p (2048 * j + r) := by
  pointwise [k0_pay8, k0_pay7, k0_pay5, chunk_apply]
  rw [Finset.sum_range]; rfl

theorem pay25_apply (a : FVec Ideal S512x1 .f32) :
    k0_pay25 q a (chunk K j) (ix2 p 0) = a (ix2 p 0) + ∑ r ∈ Finset.range 2048, wgt q K 1 p (2048 * j + r) := by
  pointwise [k0_pay25, k0_pay24, chunk_apply]
  rw [Finset.sum_range]; rfl

theorem pay4_apply (a : FVec Ideal S512x128 .f32) :
    k0_pay4 q a (chunk K j) (chunk V j) (ix2 p d)
      = a (ix2 p d) + ∑ r ∈ Finset.range 2048, wgt q K 0 p (2048 * j + r) * at4 V 0 (2048 * j + r) d := by
  pointwise [k0_pay4, k0_pay2, chunk_apply]
  rw [Finset.sum_range]; rfl

theorem pay23_apply (a : FVec Ideal S512x128 .f32) :
    k0_pay23 q a (chunk K j) (chunk V j) (ix2 p d)
      = a (ix2 p d) + ∑ r ∈ Finset.range 2048, wgt q K 0 p (2048 * j + r) * at4 V 0 (2048 * j + r) d := by
  pointwise [k0_pay23, k0_pay21, chunk_apply]
  rw [Finset.sum_range]; rfl

theorem pay9_apply (a : FVec Ideal S512x128 .f32) :
    k0_pay9 q a (k0_pay5 (chunk K j)) (k0_pay6 (chunk V j)) (ix2 p d)
      = a (ix2 p d) + ∑ r ∈ Finset.range 2048, wgt q K 1 p (2048 * j + r) * at4 V 1 (2048 * j + r) d := by
  pointwise [k0_pay9, k0_pay7, k0_pay6, k0_pay5, chunk_apply]
  rw [Finset.sum_range]; rfl

theorem pay26_apply (a : FVec Ideal S512x128 .f32) :
    k0_pay26 q a (chunk K j) (chunk V j) (ix2 p d)
      = a (ix2 p d) + ∑ r ∈ Finset.range 2048, wgt q K 1 p (2048 * j + r) * at4 V 1 (2048 * j + r) d := by
  pointwise [k0_pay26, k0_pay24, chunk_apply]
  rw [Finset.sum_range]; rfl

/-! ## The loop -/

/-- Two chunks added to the sum over the rows before them. -/
theorem two_chunks (f : ℕ → EReal) (t : ℕ) :
    (∑ r ∈ Finset.range (4096 * t), f r + ∑ r ∈ Finset.range 2048, f (2048 * (2 * t) + r))
        + ∑ r ∈ Finset.range 2048, f (2048 * (2 * t + 1) + r) = ∑ r ∈ Finset.range (4096 * (t + 1)), f r := by
  rw [show 4096 * (t + 1) = 4096 * t + 2048 + 2048 by ring, Finset.sum_range_add, Finset.sum_range_add,
    show 2048 * (2 * t) = 4096 * t by ring, show 2048 * (2 * t + 1) = 4096 * t + 2048 by ring]

variable (q' : FVec Ideal S512x128 .bf16)

/-- What the loop carries before trip `t`: the sums over the first `4096 * t` rows. -/
theorem accAt_apply (t : ℕ) (p : Fin 512) :
    (∀ d, (accAt q q' K V t).1 (ix2 p d) = ∑ r ∈ Finset.range (4096 * t), wgt q K 0 p r * at4 V 0 r d)
    ∧ (accAt q q' K V t).2.1 (ix2 p 0) = ∑ r ∈ Finset.range (4096 * t), wgt q K 0 p r
    ∧ (∀ d, (accAt q q' K V t).2.2.1 (ix2 p d) = ∑ r ∈ Finset.range (4096 * t), wgt q' K 1 p r * at4 V 1 r d)
    ∧ (accAt q q' K V t).2.2.2 (ix2 p 0) = ∑ r ∈ Finset.range (4096 * t), wgt q' K 1 p r := by
  induction t with
  | zero =>
    refine ⟨fun d => ?_, ?_, fun d => ?_, ?_⟩ <;>
      pointwise [accAt, k0_pay17, k0_pay18, k0_pay19, k0_pay20, Finset.range_zero, Finset.sum_empty] <;>
      exact Ideal.ofBits_zero_f32
  | succ t ih =>
    obtain ⟨h1, h2, h3, h4⟩ := ih
    refine ⟨fun d => ?_, ?_, fun d => ?_, ?_⟩
    · exact (pay23_apply ..).trans (by rw [pay4_apply, h1, two_chunks])
    · exact (pay22_apply ..).trans (by rw [pay3_apply, h2, two_chunks])
    · exact (pay26_apply ..).trans (by rw [pay9_apply, h3, two_chunks])
    · exact (pay25_apply ..).trans (by rw [pay8_apply, h4, two_chunks])

/-! ## A device's accumulators after the loop -/

/-- The score of row `r` for query `i` of head `h`. -/
def score (x : Vec Ideal S1x128x1024 .f32) (w : Vec Ideal S1024x1024 .f32) (K : Vec Ideal S1x32768x2x128 .f32)
    (h : Fin 8) (i : Fin 128) (r : ℕ) : EReal :=
  ∑ d : Fin 128, qh x w h i d * at4 K (grp h) r d

/-- Head and query of a row of the accumulators. -/
def headOf (p : Fin 1024) : Fin 8 := ⟨p.val / 128, by omega⟩
def queryOf (p : Fin 1024) : Fin 128 := ⟨p.val % 128, by omega⟩

variable (m : (ℓ : Loc nD τ sig) → Buf (Elt Ideal) ℓ) (c : Dev nD)

theorem wgt_grp0 (x : Vec Ideal S1x128x1024 .f32) (w : Vec Ideal S1024x1024 .f32) (p : Fin 1024) (hp : p.val < 512) (r : ℕ) :
    wgt (qGrp0 x w) K 0 ⟨p.val, hp⟩ r = Ideal.exp (score x w K (headOf p) (queryOf p) r) := by
  have hg : grp (headOf p) = 0 := Fin.ext (by dsimp only [grp, headOf]; show _ = 0; omega)
  unfold wgt score
  rw [hg]
  simp only [qGrp0_apply]; rfl

theorem wgt_grp1 (x : Vec Ideal S1x128x1024 .f32) (w : Vec Ideal S1024x1024 .f32) (p : Fin 1024) (hp : ¬ p.val < 512) (r : ℕ) :
    wgt (qGrp1 x w) K 1 ⟨p.val - 512, by omega⟩ r = Ideal.exp (score x w K (headOf p) (queryOf p) r) := by
  have hg : grp (headOf p) = 1 := Fin.ext (by dsimp only [grp, headOf]; show _ = 1; omega)
  have hh : (⟨4 + (p.val - 512) / 128, by omega⟩ : Fin 8) = headOf p := Fin.ext (by dsimp only [headOf]; omega)
  have hq : (⟨(p.val - 512) % 128, by omega⟩ : Fin 128) = queryOf p := Fin.ext (by dsimp only [queryOf]; omega)
  unfold wgt score
  rw [hg]
  simp only [qGrp1_apply, hh, hq]

theorem o0_apply (p : Fin 1024) (d : Fin 128) :
    o0 m c (ix2 p d) = ∑ r ∈ Finset.range 32768,
      Ideal.exp (score (xs m c) (wqs m c) (ks m c) (headOf p) (queryOf p) r) * at4 (vs m c) (grp (headOf p)) r d := by
  pointwise [o0, k0_pay27]
  split_ifs with hp
  · have hg : grp (headOf p) = 0 := Fin.ext (by dsimp only [grp, headOf]; show _ = 0; omega)
    rw [hg]
    refine ((accAt_apply ..).1 d).trans (Finset.sum_congr rfl fun r _ => ?_)
    rw [wgt_grp0]
  · have hg : grp (headOf p) = 1 := Fin.ext (by dsimp only [grp, headOf]; show _ = 1; omega)
    rw [hg]
    refine ((accAt_apply ..).2.2.1 d).trans (Finset.sum_congr rfl fun r _ => ?_)
    rw [wgt_grp1 _ _ _ p hp]
  · exact absurd rfl ‹_›

theorem l0_apply (p : Fin 1024) :
    l0 m c (ix2 p 0) = ∑ r ∈ Finset.range 32768,
      Ideal.exp (score (xs m c) (wqs m c) (ks m c) (headOf p) (queryOf p) r) := by
  pointwise [l0, k0_pay28]
  split_ifs with hp
  · refine ((accAt_apply ..).2.1).trans (Finset.sum_congr rfl fun r _ => ?_)
    rw [wgt_grp0]
  · refine ((accAt_apply ..).2.2.2).trans (Finset.sum_congr rfl fun r _ => ?_)
    rw [wgt_grp1 _ _ _ p hp]
  · exact absurd rfl ‹_›

/-! ## The exchange -/

/-- The device whose number differs from that of `c` in the bits of `k`. -/
def flip (c : Dev nD) (k : Fin 8) : Dev nD := ⟨c.val ^^^ k.val, by revert c k; decide⟩

/-- The three rounds of pairwise sums are the sum over the eight devices. -/
theorem butterfly (f : Dev nD → EReal) (c : Dev nD) :
    (f c + f (peer 0 c) + (f (peer 1 c) + f (peer 0 (peer 1 c))))
      + (f (peer 2 c) + f (peer 0 (peer 2 c)) + (f (peer 1 (peer 2 c)) + f (peer 0 (peer 1 (peer 2 c)))))
      = ∑ c' : Dev nD, f c' := by
  have hb : Function.Bijective (flip c) := Finite.injective_iff_bijective.1 (by revert c; decide)
  have e : ∀ c : Dev nD, c = flip c 0 ∧ peer 0 c = flip c 1 ∧ peer 1 c = flip c 2 ∧ peer 0 (peer 1 c) = flip c 3
      ∧ peer 2 c = flip c 4 ∧ peer 0 (peer 2 c) = flip c 5 ∧ peer 1 (peer 2 c) = flip c 6
      ∧ peer 0 (peer 1 (peer 2 c)) = flip c 7 := by decide
  obtain ⟨e0, e1, e2, e3, e4, e5, e6, e7⟩ := e c
  rw [← hb.sum_comp f, Fin.sum_univ_eight, e3, e5, e7, e6, e1, e2, e4, ← e0]
  simp only [add_assoc]

/-- The weighted sums over all devices. -/
theorem o_all (p : Fin 1024) (d : Fin 128) :
    o2 m c (ix2 p d) + po2 m (peer 2 c) (ix3 0 p d) = ∑ c' : Dev nD, o0 m c' (ix2 p d) := by
  have h0 (c : Dev nD) : po0 m c (ix3 0 p d) = o0 m c (ix2 p d) := by
    pointwise [po0, o0, k0_pay29, k0_pay27]
  have h1 (c : Dev nD) : o1 m c (ix2 p d) = o0 m c (ix2 p d) + o0 m (peer 0 c) (ix2 p d) := by
    rw [← h0 (peer 0 c)]; pointwise [o1, k0_pay31]
  have h1' (c : Dev nD) : po1 m c (ix3 0 p d) = o1 m c (ix2 p d) := by
    pointwise [po1, k0_pay34]
  have h2 (c : Dev nD) : o2 m c (ix2 p d) = o1 m c (ix2 p d) + o1 m (peer 1 c) (ix2 p d) := by
    rw [← h1' (peer 1 c)]; pointwise [o2, k0_pay36]
  have h2' (c : Dev nD) : po2 m c (ix3 0 p d) = o2 m c (ix2 p d) := by
    pointwise [po2, o2, k0_pay38, k0_pay36]
  rw [h2', h2, h2, h1, h1, h1, h1, butterfly fun c => o0 m c (ix2 p d)]

/-- The sums of weights over all devices. -/
theorem l_all (p : Fin 1024) :
    l2 m c (ix2 p 0) + pl2 m (peer 2 c) (ix3 0 p 0) = ∑ c' : Dev nD, l0 m c' (ix2 p 0) := by
  have h1 (c : Dev nD) : l1 m c (ix2 p 0) = l0 m c (ix2 p 0) + l0 m (peer 0 c) (ix2 p 0) := by
    pointwise [l1, b1, pl0, l0, k0_pay33, k0_pay32, k0_pay30, k0_pay28]
  have h1' (c : Dev nD) : pl1 m c (ix3 0 p 0) = l1 m c (ix2 p 0) := by
    pointwise [pl1, l1, k0_pay35, k0_pay33]
  have h2 (c : Dev nD) : l2 m c (ix2 p 0) = l1 m c (ix2 p 0) + l1 m (peer 1 c) (ix2 p 0) := by
    rw [← h1' (peer 1 c)]; pointwise [l2, k0_pay37]
  have h2' (c : Dev nD) : pl2 m c (ix3 0 p 0) = l2 m c (ix2 p 0) := by
    pointwise [pl2, l2, k0_pay39, k0_pay37]
  rw [h2', h2, h2, h1, h1, h1, h1, butterfly fun c => l0 m c (ix2 p 0)]

/-! ## The result -/

/-- The quotient at a row and a column, over the sums of all devices. -/
def att (p : Fin 1024) (d : Fin 128) : EReal :=
  Ideal.div (∑ c' : Dev nD, o0 m c' (ix2 p d)) (∑ c' : Dev nD, l0 m c' (ix2 p 0))

theorem pay40_apply (p : Fin 1024) (d : Fin 128) :
    k0_pay40 (o2 m c) (l2 m c) (po2 m (peer 2 c)) (pl2 m (peer 2 c)) (ix2 p d) = att m p d := by
  pointwise [k0_pay40]
  rw [o_all, l_all]; rfl

theorem outs_apply (i : Fin 128) (e : Fin 1024) :
    outs m c (ix3 0 i e)
      = ∑ x : Fin 1024, att m ⟨128 * (x.val / 128) + i.val, by omega⟩ ⟨x.val % 128, by omega⟩ * wos m c (ix2 x e) := by
  pointwise [outs, k0_pay1, k0_pay41, pay40_apply]
  refine Finset.sum_congr rfl fun x _ => congrArg (· * _) ?_
  split_ifs <;>
    exact congrArg₂ (att m) (Fin.ext (by dsimp only; omega)) (Fin.ext (by dsimp only; omega))

end Cert.RunProof

end
-- ==== Proof.Attention.lean ====
/-
# What the reference computes, read at an index

On finite activations, query weights and keys its softmax is the quotient of two plain sums of exponentials, the shift by
the largest score gone.
-/
module

public import proofs.«01_k».proof.Proof.Reference
public import proofs.«01_k».proof.Proof.Softmax
public import Idealize.ShloMosaic.Lib.Pointwise

@[expose] public section

noncomputable section

namespace Cert.RefProof

open Cert.ReferenceIdeal Cert.ReferenceIdeal.Gen Cert.ReferenceIdeal.Read
open Idealize.ShloMosaic Idealize.ShloMosaic.TcCoe Idealize.SL.Sem

/-! ## Two constants -/

/-- The scale as printed is a real number. -/
theorem scale_real : ∃ s : ℝ, Ideal.ofBits FTy.f32 0x3DB504F3#32 = (s : EReal) := by
  simp [Ideal.ofBits, Ideal.ieee, -EReal.coe_mul]

/-- The number the scale is. -/
def scaleR : ℝ := scale_real.choose
theorem scale_eq : Ideal.ofBits FTy.f32 0x3DB504F3#32 = (scaleR : EReal) := scale_real.choose_spec

theorem lowest_eq : Ideal.ofBits FTy.f32 0xFF800000#32 = ⊥ := by simp [Ideal.ofBits, Ideal.ieee]

/-! ## The scores -/

/-- The key and value head of head `h`. -/
def kv (h : Fin 8) : Fin 2 := ⟨h.val / 4, by omega⟩

/-- Column `d` of head `h` among the 1024 columns. -/
def at1024 (h : Fin 8) (d : Fin 128) : Fin 1024 := ⟨h.val * 128 + d.val, by omega⟩

/-- Query `i` of head `h` at column `d`, on real activations and query weights. -/
def queryR (a : S1x128x1024.Idx → ℝ) (b : S1024x1024.Idx → ℝ) (h : Fin 8) (i d : Fin 128) : ℝ :=
  ∑ k : Fin 1024, a (ix3 0 i k) * b (ix2 k (at1024 h d))

/-- The score of key `j` for query `i` of head `h`, on real inputs. -/
def scoreR (a : S1x128x1024.Idx → ℝ) (b : S1024x1024.Idx → ℝ) (k : S1x262144x2x128.Idx → ℝ)
    (h : Fin 8) (i : Fin 128) (j : Fin 262144) : ℝ :=
  (∑ d : Fin 128, queryR a b h i d * k (ix4 0 j (kv h) d)) * scaleR

/-- The attention of query `i` of head `h` at column `d`, on real scores and any values. -/
def attR (a : S1x128x1024.Idx → ℝ) (b : S1024x1024.Idx → ℝ) (k : S1x262144x2x128.Idx → ℝ)
    (v : (⟨S1x262144x2x128, .f32⟩ : BufTy).Contents (Elt Ideal)) (h : Fin 8) (i d : Fin 128) : EReal :=
  Ideal.div (∑ j : Fin 262144, Ideal.exp (scoreR a b k h i j) * v (ix4 0 j (kv h) d))
    (∑ j : Fin 262144, Ideal.exp (scoreR a b k h i j))

variable (x0 : (⟨S1x128x1024, .f32⟩ : BufTy).Contents (Elt Ideal)) (x1 x2 : (⟨S1024x1024, .f32⟩ : BufTy).Contents (Elt Ideal))
  (x3 x4 : (⟨S1x262144x2x128, .f32⟩ : BufTy).Contents (Elt Ideal))
  (a : S1x128x1024.Idx → ℝ) (b : S1024x1024.Idx → ℝ) (k : S1x262144x2x128.Idx → ℝ)

theorem v1_apply (i : Fin 128) (h : Fin 8) (d : Fin 128) :
    val_main_v1 x0 x1 (ix4 0 i h d) = ∑ t : Fin 1024, x0 (ix3 0 i t) * x1 (ix2 t (at1024 h d)) := by
  pointwise [val_main_v1, val_main_v0]
  rfl

theorem v3_apply (j : Fin 262144) (h : Fin 8) (d : Fin 128) : val_main_v3 x3 (ix4 0 j h d) = x3 (ix4 0 j (kv h) d) := by
  pointwise [val_main_v3, val_main_v2]
  rfl

theorem v5_apply (j : Fin 262144) (h : Fin 8) (d : Fin 128) : val_main_v5 x4 (ix4 0 j h d) = x4 (ix4 0 j (kv h) d) := by
  pointwise [val_main_v5, val_main_v4]
  rfl

section
variable (h0 : ∀ i, x0 i = (a i : EReal)) (h1 : ∀ i, x1 i = (b i : EReal)) (h3 : ∀ i, x3 i = (k i : EReal))
include h0 h1 h3

theorem v8_apply (h : Fin 8) (i : Fin 128) (j : Fin 262144) :
    val_main_v8 x0 x1 x3 (ix4 0 h i j) = (scoreR a b k h i j : EReal) := by
  pointwise [val_main_v8, val_main_v6, val_main_v7, val_main_cst]
  simp only [v1_apply, v3_apply, h0, h1, h3, scale_eq, ← EReal.coe_mul, ← AttnMath.coe_sum]
  rfl

theorem v13_apply (h : Fin 8) (i : Fin 128) (j : Fin 262144) :
    val_main_v13 x0 x1 x3 (ix4 0 h i j)
      = Ideal.exp ((scoreR a b k h i j : EReal) - Finset.univ.fold max ⊥ fun t => (scoreR a b k h i t : EReal)) := by
  pointwise [val_main_v13, val_main_v12, val_main_v11, val_main_v10, val_main_v9, val_main_cst_0]
  simp only [v8_apply x0 x1 x3 a b k h0 h1 h3, lowest_eq]

/-- The reference's attention at a query, a head and a column. -/
theorem att_apply (i : Fin 128) (h : Fin 8) (d : Fin 128) :
    Ideal.div (val_main_v17 x0 x1 x3 x4 (ix4 0 i h d)) (val_main_v19 x0 x1 x3 (ix4 0 i h d)) = attR a b k x4 h i d := by
  have e := AttnMath.softmax_eq (n := 262144) (by omega) (fun j => scoreR a b k h i j) (fun j => x4 (ix4 0 j (kv h) d))
  pointwise [val_main_v17, val_main_v16, val_main_v19, val_main_v18, val_main_v15, val_main_v14, val_main_cst_1]
  simp only [v5_apply, v13_apply x0 x1 x3 a b k h0 h1 h3]
  rw [zero_add] at e
  exact e.symm

/-- The reference's result at a query and an output column. -/
theorem v22_apply (i : Fin 128) (e : Fin 1024) :
    val_main_v22 x0 x1 x2 x3 x4 (ix3 0 i e)
      = ∑ t : Fin 1024, attR a b k x4 ⟨t.val / 128, by omega⟩ i ⟨t.val % 128, by omega⟩ * x2 (ix2 t e) := by
  pointwise [val_main_v22, val_main_v21, val_main_v20]
  simp only [att_apply x0 x1 x3 x4 a b k h0 h1 h3]

end

end Cert.RefProof

end
-- ==== Proof.Algebraic.lean ====
/-
# The kernel's result is the reference's

Finite inputs read off the precondition, the devices' rows put together in the order of the whole keys and values, and the
two results equal element by element.
-/
module

public import proofs.«01_k».proof.Proof.Frames
public import proofs.«01_k».proof.Proof.Kernel
public import proofs.«01_k».proof.Proof.Attention
public import Idealize.ShloMosaic.Lib.ReduceAll
public import Idealize.ShloMosaic.Lib.Layout

@[expose] public section

noncomputable section

namespace Cert.ValueProof

open Idealize.ShloMosaic Idealize.ShloMosaic.TcCoe Idealize.SL.Sem
open Cert.KernelIdeal Cert.KernelIdeal.Gen Cert.RunProof
open Cert.RefProof (scaleR scale_eq kv at1024 queryR scoreR attR v22_apply)

/-! ## The precondition -/

/-- An extended real of absolute value below infinity is a real number. -/
theorem real_of_abs_lt {x : EReal} (h : max x (-x) < ⊤) : ∃ r : ℝ, x = (r : EReal) := by
  have h1 : x ≠ ⊤ := fun e => by rw [e] at h; exact absurd h (by simp)
  have h2 : x ≠ ⊥ := fun e => by rw [e] at h; exact absurd h (by simp)
  exact ⟨x.toReal, (EReal.coe_toReal h1 h2).symm⟩

theorem inf_eq : Ideal.ofBits FTy.f32 0x7F800000#32 = ⊤ := by simp [Ideal.ofBits, Ideal.ieee]

/-- A conjunction over all elements of "below infinity in absolute value" that holds says every element is a real number. -/
theorem real_of_all {s t u : Shape} {axes : List (Fin s.rank)} [Subsingleton t.Idx] (x y : FVec Ideal s .f32) (init : u.Idx → BitVec 1)
    (h : s.ReducesTo axes t) (hu : 0 < u.numel) (j : t.Idx) (hy : ∀ i, y i = Ideal.ofBits FTy.f32 0x7F800000#32)
    (e : Host.reduce IntOp.andi (cmpf .olt (Host.absf x) y) init h hu j = 1#1) (i : s.Idx) : ∃ r : ℝ, x i = (r : EReal) := by
  have e' : Ideal.cmp .olt (max (x i) (-(x i))) (y i) = 1 := Host.reduce_andi_all _ init h hu j e i
  rw [hy, inf_eq] at e'
  exact real_of_abs_lt ((Ideal.cmp_olt_eq_one _ _).1 e')

/-- The precondition at one device: the activations, the query weights and the keys are real numbers. -/
theorem real_of_pre [Cert.Pre_finite_KernelIdeal.Facts] (x0 : Vec Ideal S1x128x1024 .f32) (x1 x2 : Vec Ideal S1024x1024 .f32)
    (x3 x4 : Vec Ideal S1x32768x2x128 .f32)
    (h : Cert.Pre_finite_KernelIdeal.fn (F := Ideal) x0 x1 x2 x3 x4 = fun _ => 1#1) :
    (∀ i, ∃ r : ℝ, x0 i = (r : EReal)) ∧ (∀ i, ∃ r : ℝ, x1 i = (r : EReal)) ∧ ∀ i, ∃ r : ℝ, x3 i = (r : EReal) := by
  haveI : Subsingleton Cert.Pre_finite_KernelIdeal.S_.Idx := ⟨fun f g => funext fun a => a.elim0⟩
  have h' := congrFun h (fun a => a.elim0)
  obtain ⟨h01, h3⟩ := IntOp.andi_eq_one.1 h'
  obtain ⟨h0, h1⟩ := IntOp.andi_eq_one.1 h01
  exact ⟨real_of_all _ _ _ _ _ _ (fun _ => rfl) h0, real_of_all _ _ _ _ _ _ (fun _ => rfl) h1,
    real_of_all _ _ _ _ _ _ (fun _ => rfl) h3⟩

/-! ## The devices' rows in the order of the whole arrays -/

/-- Row `n` of the whole keys or values. -/
def at_all (n : ℕ) : Fin 262144 := ⟨n % 262144, Nat.mod_lt _ (by omega)⟩

/-- Row `r` of the block of device `c` is row `c * 32768 + r` of the whole array. -/
theorem block_at (X : Cert.ReferenceIdeal.S1x262144x2x128.Idx → EReal) (c : Fin 8) (r : ℕ) (hr : r < 32768) (g : Fin 2) (d : Fin 128) :
    at4 (Layout.block ⟨4, ![1, 32768, 2, 128]⟩ ⟨4, ![1, 262144, 2, 128]⟩ 1 8 c X) g r d = X (ix4 0 (at_all (c.val * 32768 + r)) g d) := by
  refine congrArg X (funext fun b => Fin.ext ?_)
  rw [Layout.Tiles.idx_val]
  match b with
  | ⟨0, _⟩ => rfl
  | ⟨1, _⟩ =>
    show c.val * 32768 + r % 32768 = (c.val * 32768 + r) % 262144
    have := c.isLt
    omega
  | ⟨2, _⟩ => rfl
  | ⟨3, _⟩ => rfl

/-- The rows of the eight devices are the rows of the whole array. -/
theorem sum_rows (f : Fin 262144 → EReal) :
    ∑ c : Dev nD, ∑ r ∈ Finset.range 32768, f (at_all (c.val * 32768 + r)) = ∑ j : Fin 262144, f j := by
  refine (AttnMath.sum_eight_blocks 32768 fun n => f (at_all n)).trans ?_
  rw [show 8 * 32768 = 262144 by norm_num, Finset.sum_range]
  exact Finset.sum_congr rfl fun j _ => congrArg f (Fin.ext (Nat.mod_eq_of_lt j.isLt))

/-! ## The two results -/

theorem col_eq (h : Fin 8) (d : Fin 128) : col h d = at1024 h d :=
  Fin.ext (by dsimp only [col, at1024]; omega)

theorem head_row8 (h : Fin 8) (i : Fin 128) : headOf (row8 h i) = h := Fin.ext (by dsimp only [headOf, row8]; omega)
theorem query_row8 (h : Fin 8) (i : Fin 128) : queryOf (row8 h i) = i := Fin.ext (by dsimp only [queryOf, row8]; omega)

section
variable (m : (ℓ : Loc nD τ sig) → Buf (Elt Ideal) ℓ)
variable (a : S1x128x1024.Idx → ℝ) (b : S1024x1024.Idx → ℝ) (k : Cert.ReferenceIdeal.S1x262144x2x128.Idx → ℝ)
variable (K V : Cert.ReferenceIdeal.S1x262144x2x128.Idx → EReal)
variable (hx : ∀ c i, xs m c i = (a i : EReal)) (hw : ∀ c i, wqs m c i = (b i : EReal)) (hk : ∀ i, K i = (k i : EReal))
  (hK : ∀ c : Dev nD, ks m c = Layout.block ⟨4, ![1, 32768, 2, 128]⟩ ⟨4, ![1, 262144, 2, 128]⟩ 1 8 c K)
  (hV : ∀ c : Dev nD, vs m c = Layout.block ⟨4, ![1, 32768, 2, 128]⟩ ⟨4, ![1, 262144, 2, 128]⟩ 1 8 c V)

include hx hw hk hK in
/-- A device's score is the reference's at the row's place in the whole array. -/
theorem score_eq (c : Dev nD) (h : Fin 8) (i : Fin 128) (r : ℕ) (hr : r < 32768) :
    score (xs m c) (wqs m c) (ks m c) h i r = (scoreR a b k h i (at_all (c.val * 32768 + r)) : EReal) := by
  have hq (d : Fin 128) : qh (xs m c) (wqs m c) h i d = (queryR a b h i d : EReal) * (scaleR : EReal) := by
    unfold qh queryR scale
    simp only [hx, hw, col_eq, scale_eq, ← EReal.coe_mul, ← AttnMath.coe_sum]
  unfold score
  rw [hK]
  simp only [hq, block_at _ _ _ hr, hk]
  exact AttnMath.dot_scale _ _ _ _

include hx hw hk hK hV in
/-- The kernel's attention is the reference's. -/
theorem att_eq (h : Fin 8) (i d : Fin 128) : att m (row8 h i) d = attR a b k V h i d := by
  unfold att attR
  refine congrArg₂ Ideal.div ?_ ?_
  · rw [← sum_rows]
    refine Finset.sum_congr rfl fun c _ => ?_
    rw [o0_apply, head_row8, query_row8, hV]
    refine Finset.sum_congr rfl fun r hr => ?_
    have hr' := Finset.mem_range.1 hr
    rw [score_eq m a b k K hx hw hk hK c h i r hr', block_at _ _ _ hr']
    rfl
  · rw [← sum_rows]
    refine Finset.sum_congr rfl fun c _ => ?_
    rw [l0_apply, head_row8, query_row8]
    refine Finset.sum_congr rfl fun r hr => ?_
    rw [score_eq m a b k K hx hw hk hK c h i r (Finset.mem_range.1 hr)]

end

/-- The kernel's result on every device is the reference's. -/
theorem outs_eq [Cert.Pre_finite_KernelIdeal.Facts] (m : (ℓ : Loc nD τ sig) → Buf (Elt Ideal) ℓ)
    (x0 : Vec Ideal S1x128x1024 .f32) (x1 x2 : Vec Ideal S1024x1024 .f32) (x3 x4 : Vec Ideal Cert.ReferenceIdeal.S1x262144x2x128 .f32)
    (hp : Cert.Pre_KernelIdeal_finite_KernelIdeal m)
    (h0 : ∀ c : Dev nD, m ((c : Thread nD τ).loc main_arg0) = x0) (h1 : ∀ c : Dev nD, m ((c : Thread nD τ).loc main_arg1) = x1)
    (h2 : ∀ c : Dev nD, m ((c : Thread nD τ).loc main_arg2) = x2)
    (h3 : ∀ c : Dev nD, ks m c = Layout.block ⟨4, ![1, 32768, 2, 128]⟩ ⟨4, ![1, 262144, 2, 128]⟩ 1 8 c x3)
    (h4 : ∀ c : Dev nD, vs m c = Layout.block ⟨4, ![1, 32768, 2, 128]⟩ ⟨4, ![1, 262144, 2, 128]⟩ 1 8 c x4) (c : Dev nD) :
    outs m c = Cert.ReferenceIdeal.Read.val_main_v22 x0 x1 x2 x3 x4 := by
  have hr (c : Dev nD) := real_of_pre _ _ _ _ _ (hp c)
  have r0 : ∀ i, ∃ r : ℝ, x0 i = (r : EReal) := by rw [← h0 0]; exact (hr 0).1
  have r1 : ∀ i, ∃ r : ℝ, x1 i = (r : EReal) := by rw [← h1 0]; exact (hr 0).2.1
  have r3 : ∀ i, ∃ r : ℝ, x3 i = (r : EReal) := fun i => by
    have hi1 : (i 1).val < 262144 := (i 1).isLt
    obtain ⟨r, e⟩ := (hr ⟨(i 1).val / 32768, by show _ < 8; omega⟩).2.2
      (ix4 0 ⟨(i 1).val % 32768, by omega⟩ (i 2) (i 3))
    refine ⟨r, Eq.trans ?_ e⟩
    refine Eq.trans ?_ (congrFun (h3 ⟨(i 1).val / 32768, by show _ < 8; omega⟩) _).symm
    refine congrArg x3 (funext fun b => Fin.ext ?_)
    rw [Layout.Tiles.idx_val]
    match b with
    | ⟨0, _⟩ => have : (i 0).val < 1 := (i 0).isLt; show (i 0).val = 0; omega
    | ⟨1, _⟩ => show (i 1).val = (i 1).val / 32768 * 32768 + (i 1).val % 32768; omega
    | ⟨2, _⟩ => rfl
    | ⟨3, _⟩ => rfl
  choose a ha using r0
  choose b hb using r1
  choose k hk using r3
  funext o
  have ho : o = ix3 0 (o 1) (o 2) := funext fun t => by
    match t with
    | ⟨0, _⟩ => exact Fin.ext (by have : (o 0).val < 1 := (o 0).isLt; show (o 0).val = 0; omega)
    | ⟨1, _⟩ => rfl
    | ⟨2, _⟩ => rfl
  rw [ho]
  refine (outs_apply m c _ _).trans (Eq.trans ?_ (v22_apply x0 x1 x2 x3 x4 a b k ha hb hk _ _).symm)
  refine Finset.sum_congr rfl fun t _ => congrArg₂ (· * ·) ?_ (by rw [wos_eq, h2])
  exact att_eq m a b k x3 x4 (fun c i => by rw [xs_eq, h0, ha]) (fun c i => by rw [wqs_eq, h1, hb]) hk h3 h4
    ⟨t.val / 128, by omega⟩ _ _

/-- `Cert.algebraic_KernelIdeal_ReferenceIdeal_pre_finite_KernelIdeal`: both programs end with the reference's value, the
    arguments unchanged. -/
theorem algebraic [Cert.Pre_finite_KernelIdeal.Facts] : Cert.algebraic_KernelIdeal_ReferenceIdeal_pre_finite_KernelIdeal :=
  fun m g m' g' hp hm => by
    refine ⟨Cert.ReferenceIdeal.Read.val_main_v22 _ _ _ _ _,
      (θ_run defs _ _).mono (fun r h c => ⟨(h c).1.trans ?_, (h c).2⟩) (run_value m g),
      (θ_run Cert.ReferenceIdeal.defs _ _).mono (fun r h => ⟨((h 0).1).trans (Cert.ReferenceIdeal.Read.val_main_v22_eq _ _ _ _ _), (h 0).2⟩)
        (Cert.ReferenceIdeal.Value.run (F := Ideal) m' g')⟩
    exact outs_eq m _ _ _ _ _ hp (fun c => (hm c).1) (fun c => (hm c).2.1) (fun c => (hm c).2.2.1) (fun c => (hm c).2.2.2.1)
      (fun c => (hm c).2.2.2.2) c

end Cert.ValueProof

end
-- ==== Proof.lean ====
/-
# The certificate

The claims of Defs.lean together: the frames of both programs are one run (Proof/Launch.lean) at the two float
instances, the reference's frame its own run, the value claim Proof/Algebraic.lean.
-/
module

public import proofs.«01_k».proof.Defs
public import proofs.«01_k».proof.Proof.Frames
public import proofs.«01_k».proof.Proof.Reference
public import proofs.«01_k».proof.Proof.Algebraic

@[expose] public section

noncomputable section

namespace Cert.Proof

open Idealize.ShloMosaic Idealize.ShloMosaic.TcCoe Idealize.SL.Sem

/-- `Cert.Claim` (Defs.lean): the programs' facts, then the claims in order. -/
theorem claim : Cert.Claim :=
  ⟨Cert.Kernel.Gen.facts, Cert.KernelIdeal.Gen.facts, Cert.ReferenceIdeal.Gen.facts,
    Cert.Pre_finite_KernelIdeal.Gen.facts, Cert.Pre_finite_ReferenceIdeal.Gen.facts,
    Cert.RunProof.frame_kernel,
    Cert.RunProof.frame_ideal, fun m ρ _ => Cert.RunProof.frame_ideal m ρ trivial,
    Cert.RefProof.frame_reference, fun m ρ _ => Cert.RefProof.frame_reference m ρ trivial,
    trivial,
    haveI := Cert.Pre_finite_KernelIdeal.Gen.facts
    Cert.ValueProof.algebraic⟩

end Cert.Proof

end
